-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v42) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_routed := hPre_routed)
-- ==== Pre_finite.lean ====
abbrev S8x16x4096x128 : Shape := ⟨4, ![8, 16, 4096, 128]⟩
abbrev S8x16x4608x128 : Shape := ⟨4, ![8, 16, 4608, 128]⟩
abbrev S32x192 : Shape := ⟨2, ![32, 192]⟩
abbrev S_ : Shape := ⟨0, ![]⟩

class Facts : Prop where
  bitsLt_bf16_f32 : FTy.bits .bf16 < FTy.bits .f32
  bcast_S_S8x16x4096x128 : S_.BroadcastsInDim S8x16x4096x128 (![] : Fin 0 → Fin S8x16x4096x128.rank)
  reducesTo_S8x16x4096x128_S_d0_1_2_3 : S8x16x4096x128.ReducesTo [0, 1, 2, 3] S_
  h_S_ : 0 < S_.numel
  bcast_S_S8x16x4608x128 : S_.BroadcastsInDim S8x16x4608x128 (![] : Fin 0 → Fin S8x16x4608x128.rank)
  reducesTo_S8x16x4608x128_S_d0_1_2_3 : S8x16x4608x128.ReducesTo [0, 1, 2, 3] S_
  bcast_S_S32x192 : S_.BroadcastsInDim S32x192 (![] : Fin 0 → Fin S32x192.rank)
  reducesTo_S32x192_S_d0_1 : S32x192.ReducesTo [0, 1] S_

variable [Facts]

def fn {F : FTy → Type} [FloatOps F] (main_arg0 : FVec F S8x16x4096x128 .bf16) (main_arg1 : FVec F S8x16x4608x128 .bf16) (main_arg2 : FVec F S8x16x4608x128 .bf16) (main_arg3 : FVec F S32x192 .f32) : IVec S_ 1 :=
  let main_v0 : FVec F S8x16x4096x128 .f32 := (extf .f32 · bitsLt_bf16_f32) main_arg0
  let main_v1 : FVec F S8x16x4096x128 .f32 := Host.absf main_v0
  let main_cst : FVec F S_ .f32 := constant S_ .f32 0x7F800000#32
  let main_v2 : FVec F S8x16x4096x128 .f32 := broadcastInDim S8x16x4096x128 ![] bcast_S_S8x16x4096x128 main_cst
  let main_v3 : IVec S8x16x4096x128 1 := cmpf .olt main_v1 main_v2
  let main_c : IVec S_ 1 := constantI S_ 1 1#1
  let main_v4 : IVec S_ 1 := (fun x v => Host.reduce IntOp.andi x v reducesTo_S8x16x4096x128_S_d0_1_2_3 h_S_) main_v3 main_c
  let main_v5 : FVec F S8x16x4608x128 .f32 := (extf .f32 · bitsLt_bf16_f32) main_arg1
  let main_v6 : FVec F S8x16x4608x128 .f32 := Host.absf main_v5
  let main_cst_0 : FVec F S_ .f32 := constant S_ .f32 0x7F800000#32
  let main_v7 : FVec F S8x16x4608x128 .f32 := broadcastInDim S8x16x4608x128 ![] bcast_S_S8x16x4608x128 main_cst_0
  let main_v8 : IVec S8x16x4608x128 1 := cmpf .olt main_v6 main_v7
  let main_c_1 : IVec S_ 1 := constantI S_ 1 1#1
  let main_v9 : IVec S_ 1 := (fun x v => Host.reduce IntOp.andi x v reducesTo_S8x16x4608x128_S_d0_1_2_3 h_S_) main_v8 main_c_1
  let main_v10 : IVec S_ 1 := andi main_v4 main_v9
  let main_v11 : FVec F S32x192 .f32 := Host.absf main_arg3
  let main_cst_2 : FVec F S_ .f32 := constant S_ .f32 0x7F800000#32
  let main_v12 : FVec F S32x192 .f32 := broadcastInDim S32x192 ![] bcast_S_S32x192 main_cst_2
  let main_v13 : IVec S32x192 1 := cmpf .olt main_v11 main_v12
  let main_c_3 : IVec S_ 1 := constantI S_ 1 1#1
  let main_v14 : IVec S_ 1 := (fun x v => Host.reduce IntOp.andi x v reducesTo_S32x192_S_d0_1 h_S_) main_v13 main_c_3
  let main_v15 : IVec S_ 1 := andi main_v10 main_v14
  main_v15
-- ==== Pre_routed.lean ====
abbrev S136 : Shape := ⟨1, ![136]⟩
abbrev S1 : Shape := ⟨1, ![1]⟩
abbrev S69632x2048 : Shape := ⟨2, ![69632, 2048]⟩
abbrev S2x8x2048x7168 : Shape := ⟨4, ![2, 8, 2048, 7168]⟩
abbrev S2x8x7168x2048 : Shape := ⟨4, ![2, 8, 7168, 2048]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S136 32) (main_arg1 : IVec S1 32) (main_arg2 : FVec F S69632x2048 .f32) (main_arg3 : FVec F S2x8x2048x7168 .bf16) (main_arg4 : FVec F S2x8x2048x7168 .bf16) (main_arg5 : FVec F S2x8x7168x2048 .bf16) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S8x16x4096x128 : Shape := ⟨4, ![8, 16, 4096, 128]⟩
abbrev S8x16x4608x128 : Shape := ⟨4, ![8, 16, 4608, 128]⟩
abbrev S32x192 : Shape := ⟨2, ![32, 192]⟩
abbrev S1024 : Shape := ⟨1, ![1024]⟩
abbrev S_ : Shape := ⟨0, ![]⟩
abbrev S1024x1 : Shape := ⟨2, ![1024, 1]⟩
abbrev S32x1024 : Shape := ⟨2, ![32, 1024]⟩
abbrev S1x32x1x1024 : Shape := ⟨4, ![1, 32, 1, 1024]⟩
abbrev S1x32x256x1024 : Shape := ⟨4, ![1, 32, 256, 1024]⟩
abbrev S32x262144 : Shape := ⟨2, ![32, 262144]⟩
abbrev S32x261888 : Shape := ⟨2, ![32, 261888]⟩
abbrev S32x256x1023 : Shape := ⟨3, ![32, 256, 1023]⟩
abbrev S32x256x768 : Shape := ⟨3, ![32, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S16x2x256x768 : Shape := ⟨4, ![16, 2, 256, 768]⟩
abbrev S1x4x256x128 : Shape := ⟨4, ![1, 4, 256, 128]⟩
abbrev S1x4x4608x128 : Shape := ⟨4, ![1, 4, 4608, 128]⟩
abbrev S4x2x256x768 : Shape := ⟨4, ![4, 2, 256, 768]⟩
abbrev S256x128 : Shape := ⟨2, ![256, 128]⟩
abbrev S1x1x256x128 : Shape := ⟨4, ![1, 1, 256, 128]⟩
abbrev S1x1x768x128 : Shape := ⟨4, ![1, 1, 768, 128]⟩
abbrev S768x128 : Shape := ⟨2, ![768, 128]⟩
abbrev S1x1x256x768 : Shape := ⟨4, ![1, 1, 256, 768]⟩

abbrev nBuf : Space → Nat
  | .hbm => 92
  | .vmem => 10
  | .smem => 0
  | _ => 0

abbrev bufTy : (tb : Table) → Fin (tcTables nBuf tb) → BufTy
  | .hbm, ⟨0, _⟩ => ⟨S8x16x4096x128, .bf16⟩
  | .hbm, ⟨1, _⟩ => ⟨S8x16x4608x128, .bf16⟩
  | .hbm, ⟨2, _⟩ => ⟨S8x16x4608x128, .bf16⟩
  | .hbm, ⟨3, _⟩ => ⟨S32x192, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S32x1024, .f32⟩
  | .hbm, ⟨28, _⟩ => ⟨S1x32x1x1024, .f32⟩
  | .hbm, ⟨29, _⟩ => ⟨S1x32x256x1024, .f32⟩
  | .hbm, ⟨30, _⟩ => ⟨S32x262144, .f32⟩
  | .hbm, ⟨31, _⟩ => ⟨S32x261888, .f32⟩
  | .hbm, ⟨32, _⟩ => ⟨S32x256x1023, .f32⟩
  | .hbm, ⟨33, _⟩ => ⟨S32x256x768, .f32⟩
  | .hbm, ⟨34, _⟩ => ⟨S256, .i32⟩
  | .hbm, ⟨35, _⟩ => ⟨S256x1, .i32⟩
  | .hbm, ⟨36, _⟩ => ⟨S_, .i32⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i1⟩
  | .hbm, ⟨44, _⟩ => ⟨S256x1, .i32⟩
  | .hbm, ⟨45, _⟩ => ⟨S256x1, .i32⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i32⟩
  | .hbm, ⟨51, _⟩ => ⟨S256x1, .i32⟩
  | .hbm, ⟨52, _⟩ => ⟨S256x1, .i32⟩
  | .hbm, ⟨53, _⟩ => ⟨S256x1, .i32⟩
  | .hbm, ⟨54, _⟩ => ⟨S768, .i32⟩
  | .hbm, ⟨55, _⟩ => ⟨S1x768, .i32⟩
  | .hbm, ⟨56, _⟩ => ⟨S_, .i32⟩
  | .hbm, ⟨57, _⟩ => ⟨S_, .i32⟩
  | .hbm, ⟨58, _⟩ => ⟨S1x768, .i32⟩
  | .hbm, ⟨59, _⟩ => ⟨S1x768, .i32⟩
  | .hbm, ⟨60, _⟩ => ⟨S1x768, .i32⟩
  | .hbm, ⟨61, _⟩ => ⟨S_, .i32⟩
  | .hbm, ⟨62, _⟩ => ⟨S1x768, .i32⟩
  | .hbm, ⟨63, _⟩ => ⟨S1x768, .i1⟩
  | .hbm, ⟨64, _⟩ => ⟨S1x768, .i32⟩
  | .hbm, ⟨65, _⟩ => ⟨S1x768, .i32⟩
  | .hbm, ⟨66, _⟩ => ⟨S_, .i32⟩
  | .hbm, ⟨67, _⟩ => ⟨S1x768, .i32⟩
  | .hbm, ⟨68, _⟩ => ⟨S1x768, .i1⟩
  | .hbm, ⟨69, _⟩ => ⟨S1x768, .i1⟩
  | .hbm, ⟨70, _⟩ => ⟨S_, .i32⟩
  | .hbm, ⟨71, _⟩ => ⟨S1x768, .i32⟩
  | .hbm, ⟨72, _⟩ => ⟨S1x768, .i32⟩
  | .hbm, ⟨73, _⟩ => ⟨S1x768, .i32⟩
  | .hbm, ⟨74, _⟩ => ⟨S256x768, .i32⟩
  | .hbm, ⟨75, _⟩ => ⟨S256x768, .i32⟩
  | .hbm, ⟨76, _⟩ => ⟨S256x768, .i1⟩
  | .hbm, ⟨77, _⟩ => ⟨S_, .i32⟩
  | .hbm, ⟨78, _⟩ => ⟨S256x1, .i32⟩
  | .hbm, ⟨79, _⟩ => ⟨S256x1, .i32⟩
  | .hbm, ⟨80, _⟩ => ⟨S256x768, .i32⟩
  | .hbm, ⟨81, _⟩ => ⟨S256x768, .i32⟩
  | .hbm, ⟨82, _⟩ => ⟨S256x768, .i1⟩
  | .hbm, ⟨83, _⟩ => ⟨S256x768, .i1⟩
  | .hbm, ⟨84, _⟩ => ⟨S1x256x768, .i1⟩
  | .hbm, ⟨85, _⟩ => ⟨S_, .f32⟩
  | .hbm, ⟨86, _⟩ => ⟨S_, .f32⟩
  | .hbm, ⟨87, _⟩ => ⟨S32x256x768, .i1⟩
  | .hbm, ⟨88, _⟩ => ⟨S32x256x768, .f32⟩
  | .hbm, ⟨89, _⟩ => ⟨S32x256x768, .f32⟩
  | .hbm, ⟨90, _⟩ => ⟨S16x2x256x768, .f32⟩
  | .hbm, ⟨91, _⟩ => ⟨S8x16x4096x128, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x4x4608x128, .bf16⟩
  | .local _ .vmem, ⟨3, _⟩ => ⟨S1x4x4608x128, .bf16⟩
  | .local _ .vmem, ⟨4, _⟩ => ⟨S1x4x4608x128, .bf16⟩
  | .local _ .vmem, ⟨5, _⟩ => ⟨S1x4x4608x128, .bf16⟩
  | .local _ .vmem, ⟨6, _⟩ => ⟨S4x2x256x768, .f32⟩
  | .local _ .vmem, ⟨7, _⟩ => ⟨S4x2x256x768, .f32⟩
  | .local _ .vmem, ⟨8, _⟩ => ⟨S1x4x256x128, .bf16⟩
  | .local _ .vmem, ⟨9, _⟩ => ⟨S1x4x256x128, .bf16⟩
  | _, _ => ⟨S8x16x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_6 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_c_7 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_cst : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_cond1 (i : grid0.Coords) : BitVec 1 :=
  let arg2 : BitVec 32 := BitVec.ofNat 32 (i 2).val
  let c256_i32 : BitVec 32 := 256#32
  let v0 : BitVec 32 := Scalar.muli arg2 c256_i32
  let v1 : BitVec 32 := v0
  let c512_i32 : BitVec 32 := 512#32
  let v3 : BitVec 1 := Scalar.cmpi .slt v1 c512_i32
  let v4 : BitVec 32 := Scalar.extui v3
  let c0_i32 : BitVec 32 := 0#32
  let v5 : BitVec 1 := Scalar.cmpi .ne v4 c0_i32
  v5

def k0_off1 (i : grid0.Coords) : Fin 4 → Nat :=
  let c0_7 : Index := 0#32
  let c0_8 : Index := 0#32
  let arg2 : BitVec 32 := BitVec.ofNat 32 (i 2).val
  let c256_i32 : BitVec 32 := 256#32
  let v0 : BitVec 32 := Scalar.muli arg2 c256_i32
  let v1 : BitVec 32 := v0
  let v23 : Index := Scalar.indexCast v1
  let c0_9 : Index := 0#32
  ![0, 0, v23.toNat, 0]
def k0_off2 (i : grid0.Coords) : Fin 4 → Nat :=
  let c0_43 : Index := 0#32
  let c1_44 : Index := 1#32
  let arg2 : BitVec 32 := BitVec.ofNat 32 (i 2).val
  let c256_i32 : BitVec 32 := 256#32
  let v0 : BitVec 32 := Scalar.muli arg2 c256_i32
  let v1 : BitVec 32 := v0
  let v79 : Index := Scalar.indexCast v1
  let c0_45 : Index := 0#32
  ![0, 1, v79.toNat, 0]
def k0_off3 (i : grid0.Coords) : Fin 4 → Nat :=
  let c0_93 : Index := 0#32
  let c2_94 : Index := 2#32
  let arg2 : BitVec 32 := BitVec.ofNat 32 (i 2).val
  let c256_i32 : BitVec 32 := 256#32
  let v0 : BitVec 32 := Scalar.muli arg2 c256_i32
  let v1 : BitVec 32 := v0
  let v154 : Index := Scalar.indexCast v1
  let c0_95 : Index := 0#32
  ![0, 2, v154.toNat, 0]
def k0_off4 (i : grid0.Coords) : Fin 4 → Nat :=
  let c0_143 : Index := 0#32
  let c3_144 : Index := 3#32
  let arg2 : BitVec 32 := BitVec.ofNat 32 (i 2).val
  let c256_i32 : BitVec 32 := 256#32
  let v0 : BitVec 32 := Scalar.muli arg2 c256_i32
  let v1 : BitVec 32 := v0
  let v229 : Index := Scalar.indexCast v1
  let c0_145 : Index := 0#32
  ![0, 3, v229.toNat, 0]
def k0_cond2 (i : grid0.Coords) : BitVec 1 :=
  let arg2 : BitVec 32 := BitVec.ofNat 32 (i 2).val
  let c256_i32 : BitVec 32 := 256#32
  let v0 : BitVec 32 := Scalar.muli arg2 c256_i32
  let v1 : BitVec 32 := v0
  let c512_i32_0 : BitVec 32 := 512#32
  let v6 : BitVec 1 := Scalar.cmpi .sge v1 c512_i32_0
  let v7 : BitVec 32 := Scalar.extui v6
  let c0_i32_1 : BitVec 32 := 0#32
  let v8 : BitVec 1 := Scalar.cmpi .ne v7 c0_i32_1
  v8

def k0_off5 (i : grid0.Coords) : Fin 4 → Nat :=
  let c0_6 : Index := 0#32
  let c0_7 : Index := 0#32
  let arg2 : BitVec 32 := BitVec.ofNat 32 (i 2).val
  let c256_i32 : BitVec 32 := 256#32
  let v0 : BitVec 32 := Scalar.muli arg2 c256_i32
  let v1 : BitVec 32 := v0
  let v18 : Index := Scalar.indexCast v1
  let c0_8 : Index := 0#32
  ![0, 0, v18.toNat, 0]
def k0_off6 (i : grid0.Coords) : Fin 4 → Nat :=
  let c0_40 : Index := 0#32
  let c1_41 : Index := 1#32
  let arg2 : BitVec 32 := BitVec.ofNat 32 (i 2).val
  let c256_i32 : BitVec 32 := 256#32
  let v0 : BitVec 32 := Scalar.muli arg2 c256_i32
  let v1 : BitVec 32 := v0
  let v70 : Index := Scalar.indexCast v1
  let c0_42 : Index := 0#32
  ![0, 1, v70.toNat, 0]
def k0_off7 (i : grid0.Coords) : Fin 4 → Nat :=
  let c0_88 : Index := 0#32
  let c2_89 : Index := 2#32
  let arg2 : BitVec 32 := BitVec.ofNat 32 (i 2).val
  let c256_i32 : BitVec 32 := 256#32
  let v0 : BitVec 32 := Scalar.muli arg2 c256_i32
  let v1 : BitVec 32 := v0
  let v141 : Index := Scalar.indexCast v1
  let c0_90 : Index := 0#32
  ![0, 2, v141.toNat, 0]
def k0_off8 (i : grid0.Coords) : Fin 4 → Nat :=
  let c0_136 : Index := 0#32
  let c3_137 : Index := 3#32
  let arg2 : BitVec 32 := BitVec.ofNat 32 (i 2).val
  let c256_i32 : BitVec 32 := 256#32
  let v0 : BitVec 32 := Scalar.muli arg2 c256_i32
  let v1 : BitVec 32 := v0
  let v212 : Index := Scalar.indexCast v1
  let c0_138 : Index := 0#32
  ![0, 3, v212.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x16x4096x128 : Shape := ⟨4, ![8, 16, 4096, 128]⟩
abbrev S8x16x4608x128 : Shape := ⟨4, ![8, 16, 4608, 128]⟩
abbrev S32x192 : Shape := ⟨2, ![32, 192]⟩
abbrev S8x16x64x64x2x64 : Shape := ⟨6, ![8, 16, 64, 64, 2, 64]⟩
abbrev S8x16x4608x2x64 : Shape := ⟨5, ![8, 16, 4608, 2, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S32x64x576 : Shape := ⟨3, ![32, 64, 576]⟩
abbrev S16x2x64x576 : Shape := ⟨4, ![16, 2, 64, 576]⟩
abbrev S8x16x64x576x2x64 : Shape := ⟨6, ![8, 16, 64, 576, 2, 64]⟩
abbrev S8x16x64x2x64x576 : Shape := ⟨6, ![8, 16, 64, 2, 64, 576]⟩
abbrev S1x16x1x2x64x576 : Shape := ⟨6, ![1, 16, 1, 2, 64, 576]⟩
abbrev S1x1x64x1x1x576 : Shape := ⟨6, ![1, 1, 64, 1, 1, 576]⟩
abbrev S8x16x64x2x64 : Shape := ⟨5, ![8, 16, 64, 2, 64]⟩
abbrev S8x16x64x2x64x1 : Shape := ⟨6, ![8, 16, 64, 2, 64, 1]⟩
abbrev S8x16x64x2x64x64 : Shape := ⟨6, ![8, 16, 64, 2, 64, 64]⟩

abbrev nBuf : Space → Nat
  | .hbm => 129
  | .vmem => 0
  | .smem => 0
  | _ => 0

abbrev hbmTy0_0 (i : Nat) : BufTy := match i % 128 with
  | 0 => ⟨S8x16x4096x128, .bf16⟩
  | 1 => ⟨S8x16x4608x128, .bf16⟩
  | 2 => ⟨S8x16x4608x128, .bf16⟩
  | 3 => ⟨S32x192, .f32⟩
  | 4 => ⟨S8x16x4096x128, .f32⟩
  | 5 => ⟨S8x16x64x64x2x64, .f32⟩
  | 6 => ⟨S8x16x4608x128, .f32⟩
  | 7 => ⟨S8x16x4608x2x64, .f32⟩
  | 8 => ⟨S8x16x4608x128, .f32⟩
  | 9 => ⟨S8x16x4608x2x64, .f32⟩
  | 10 => ⟨S64, .i32⟩
  | 11 => ⟨S64x1, .i32⟩
  | 12 => ⟨S64, .i32⟩
  | 13 => ⟨S64x1, .i32⟩
  | 14 => ⟨S576, .i32⟩
  | 15 => ⟨S1x576, .i32⟩
  | 16 => ⟨S_, .i32⟩
  | 17 => ⟨S64x1, .i32⟩
  | 18 => ⟨S64x1, .i32⟩
  | 19 => ⟨S64x576, .i32⟩
  | 20 => ⟨S64x576, .i32⟩
  | 21 => ⟨S64x576, .i32⟩
  | 22 => ⟨S_, .i32⟩
  | 23 => ⟨S_, .i32⟩
  | 24 => ⟨S_, .i32⟩
  | 25 => ⟨S64x576, .i32⟩
  | 26 => ⟨S64x576, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i1⟩
  | 36 => ⟨S_, .i32⟩
  | 37 => ⟨S64x576, .i32⟩
  | 38 => ⟨S64x576, .i32⟩
  | 39 => ⟨S64x576, .i32⟩
  | 40 => ⟨S64x576x1, .i32⟩
  | 41 => ⟨S32x64x576, .f32⟩
  | 42 => ⟨S16x2x64x576, .f32⟩
  | 43 => ⟨S_, .i32⟩
  | 44 => ⟨S64x1, .i32⟩
  | 45 => ⟨S64x1, .i32⟩
  | 46 => ⟨S64x576, .i32⟩
  | 47 => ⟨S64x576, .i32⟩
  | 48 => ⟨S64x576, .i32⟩
  | 49 => ⟨S_, .i32⟩
  | 50 => ⟨S64x576, .i32⟩
  | 51 => ⟨S64x576, .i1⟩
  | 52 => ⟨S_, .i32⟩
  | 53 => ⟨S64x576, .i32⟩
  | 54 => ⟨S64x576, .i32⟩
  | 55 => ⟨S64x576, .i32⟩
  | 56 => ⟨S64x576x1, .i32⟩
  | 57 => ⟨S8x16x64x576x2x64, .f32⟩
  | 58 => ⟨S_, .i32⟩
  | 59 => ⟨S64x1, .i32⟩
  | 60 => ⟨S64x1, .i32⟩
  | 61 => ⟨S64x576, .i32⟩
  | 62 => ⟨S64x576, .i32⟩
  | 63 => ⟨S64x576, .i32⟩
  | 64 => ⟨S_, .i32⟩
  | 65 => ⟨S64x576, .i32⟩
  | 66 => ⟨S64x576, .i1⟩
  | 67 => ⟨S_, .i32⟩
  | 68 => ⟨S64x576, .i32⟩
  | 69 => ⟨S64x576, .i32⟩
  | 70 => ⟨S64x576, .i32⟩
  | 71 => ⟨S64x576x1, .i32⟩
  | 72 => ⟨S8x16x64x576x2x64, .f32⟩
  | 73 => ⟨S8x16x64x2x64x576, .f32⟩
  | 74 => ⟨S_, .f32⟩
  | 75 => ⟨S_, .f32⟩
  | 76 => ⟨S8x16x64x2x64x576, .f32⟩
  | 77 => ⟨S8x16x64x2x64x576, .f32⟩
  | 78 => ⟨S1x16x1x2x64x576, .f32⟩
  | 79 => ⟨S8x16x64x2x64x576, .f32⟩
  | 80 => ⟨S8x16x64x2x64x576, .f32⟩
  | 81 => ⟨S_, .i32⟩
  | 82 => ⟨S_, .i32⟩
  | 83 => ⟨S1x576, .i32⟩
  | 84 => ⟨S1x576, .i32⟩
  | 85 => ⟨S1x576, .i32⟩
  | 86 => ⟨S_, .i32⟩
  | 87 => ⟨S1x576, .i32⟩
  | 88 => ⟨S1x576, .i1⟩
  | 89 => ⟨S1x576, .i32⟩
  | 90 => ⟨S1x576, .i32⟩
  | 91 => ⟨S_, .i32⟩
  | 92 => ⟨S1x576, .i32⟩
  | 93 => ⟨S1x576, .i1⟩
  | 94 => ⟨S1x576, .i1⟩
  | 95 => ⟨S_, .i32⟩
  | 96 => ⟨S1x576, .i32⟩
  | 97 => ⟨S1x576, .i32⟩
  | 98 => ⟨S1x576, .i32⟩
  | 99 => ⟨S64x576, .i32⟩
  | 100 => ⟨S64x576, .i32⟩
  | 101 => ⟨S64x576, .i32⟩
  | 102 => ⟨S_, .i32⟩
  | 103 => ⟨S64x576, .i32⟩
  | 104 => ⟨S64x576, .i1⟩
  | 105 => ⟨S1x1x64x1x1x576, .i1⟩
  | 106 => ⟨S_, .f32⟩
  | 107 => ⟨S_, .f32⟩
  | 108 => ⟨S8x16x64x2x64x576, .i1⟩
  | 109 => ⟨S8x16x64x2x64x576, .f32⟩
  | 110 => ⟨S8x16x64x2x64x576, .f32⟩
  | 111 => ⟨S_, .f32⟩
  | 112 => ⟨S8x16x64x2x64, .f32⟩
  | 113 => ⟨S_, .f32⟩
  | 114 => ⟨S8x16x64x2x64, .f32⟩
  | 115 => ⟨S8x16x64x2x64, .f32⟩
  | 116 => ⟨S8x16x64x2x64x1, .f32⟩
  | 117 => ⟨S8x16x64x2x64x576, .f32⟩
  | 118 => ⟨S8x16x64x2x64x576, .f32⟩
  | 119 => ⟨S8x16x64x2x64x576, .f32⟩
  | 120 => ⟨S_, .f32⟩
  | 121 => ⟨S8x16x64x2x64, .f32⟩
  | 122 => ⟨S8x16x64x2x64x1, .f32⟩
  | 123 => ⟨S8x16x64x2x64x576, .f32⟩
  | 124 => ⟨S8x16x64x2x64x576, .f32⟩
  | 125 => ⟨S8x16x64x2x64x64, .f32⟩
  | 126 => ⟨S8x16x64x64x2x64, .f32⟩
  | 127 => ⟨S8x16x4096x128, .f32⟩
  | _ => ⟨S8x16x4096x128, .bf16⟩

abbrev hbmTy0_1 (i : Nat) : BufTy := match i % 128 with
  | 0 => ⟨S8x16x4096x128, .bf16⟩
  | _ => ⟨S8x16x4096x128, .bf16⟩

abbrev hbmTy (i : Nat) : BufTy := match i / 128 with
  | 0 => hbmTy0_0 i
  | 1 => hbmTy0_1 i
  | _ => ⟨S8x16x4096x128, .bf16⟩

abbrev bufTy : (tb : Table) → Fin (tcTables nBuf tb) → BufTy
  | .hbm, ⟨i, _⟩ => hbmTy i
  | _, _ => ⟨S8x16x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_c : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_0 : Ref sig .tc := ⟨.hbm, 95, rfl⟩
abbrev main_call1_v12 : Ref sig .tc := ⟨.hbm, 96, rfl⟩
abbrev main_call1_v13 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_12 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_13 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v66 : Ref sig .tc := ⟨.hbm, 110, rfl⟩
abbrev main_cst_14 : Ref sig .tc := ⟨.hbm, 111, rfl⟩
abbrev main_v67 : Ref sig .tc := ⟨.hbm, 112, rfl⟩
abbrev main_cst_15 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_16 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩

abbrev nD : Nat := 1
abbrev τ : Topo := Topo.v7x

variable {F : FTy → Type} [FloatOps F]
-- ==== Experts.lean ====
abbrev S136 : Shape := ⟨1, ![136]⟩
abbrev S1 : Shape := ⟨1, ![1]⟩
abbrev S69632x2048 : Shape := ⟨2, ![69632, 2048]⟩
abbrev S2x8x2048x7168 : Shape := ⟨4, ![2, 8, 2048, 7168]⟩
abbrev S2x8x7168x2048 : Shape := ⟨4, ![2, 8, 7168, 2048]⟩
abbrev S512x2048 : Shape := ⟨2, ![512, 2048]⟩
abbrev S1x1x2048x1024 : Shape := ⟨4, ![1, 1, 2048, 1024]⟩
abbrev S1x1x1024x2048 : Shape := ⟨4, ![1, 1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 5
  | .vmem => 11
  | .smem => 2
  | _ => 0

abbrev bufTy : (tb : Table) → Fin (tcTables nBuf tb) → BufTy
  | .hbm, ⟨0, _⟩ => ⟨S69632x2048, .f32⟩
  | .hbm, ⟨1, _⟩ => ⟨S2x8x2048x7168, .bf16⟩
  | .hbm, ⟨2, _⟩ => ⟨S2x8x2048x7168, .bf16⟩
  | .hbm, ⟨3, _⟩ => ⟨S2x8x7168x2048, .bf16⟩
  | .hbm, ⟨4, _⟩ => ⟨S69632x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1x2048x1024, .bf16⟩
  | .local _ .vmem, ⟨5, _⟩ => ⟨S1x1x2048x1024, .bf16⟩
  | .local _ .vmem, ⟨6, _⟩ => ⟨S1x1x1024x2048, .bf16⟩
  | .local _ .vmem, ⟨7, _⟩ => ⟨S1x1x1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .smem, ⟨0, _⟩ => ⟨S136, .i32⟩
  | .local _ .smem, ⟨1, _⟩ => ⟨S1, .i32⟩
  | _, _ => ⟨S69632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S136 : Shape := ⟨1, ![136]⟩
abbrev S1 : Shape := ⟨1, ![1]⟩
abbrev S69632x2048 : Shape := ⟨2, ![69632, 2048]⟩
abbrev S2x8x2048x7168 : Shape := ⟨4, ![2, 8, 2048, 7168]⟩
abbrev S2x8x7168x2048 : Shape := ⟨4, ![2, 8, 7168, 2048]⟩
abbrev S136x512x2048 : Shape := ⟨3, ![136, 512, 2048]⟩
abbrev S1x8x2048x7168 : Shape := ⟨4, ![1, 8, 2048, 7168]⟩
abbrev S8x2048x7168 : Shape := ⟨3, ![8, 2048, 7168]⟩
abbrev S_ : Shape := ⟨0, ![]⟩
abbrev S136x1 : Shape := ⟨2, ![136, 1]⟩
abbrev S136x2048x7168 : Shape := ⟨3, ![136, 2048, 7168]⟩
abbrev S1x8x7168x2048 : Shape := ⟨4, ![1, 8, 7168, 2048]⟩
abbrev S8x7168x2048 : Shape := ⟨3, ![8, 7168, 2048]⟩
abbrev S136x7168x2048 : Shape := ⟨3, ![136, 7168, 2048]⟩
abbrev S136x512x7168 : Shape := ⟨3, ![136, 512, 7168]⟩
abbrev S136x1x1 : Shape := ⟨3, ![136, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S69632x2048, .f32⟩
  | .hbm, ⟨3, _⟩ => ⟨S2x8x2048x7168, .bf16⟩
  | .hbm, ⟨4, _⟩ => ⟨S2x8x2048x7168, .bf16⟩
  | .hbm, ⟨5, _⟩ => ⟨S2x8x7168x2048, .bf16⟩
  | .hbm, ⟨6, _⟩ => ⟨S136x512x2048, .f32⟩
  | .hbm, ⟨7, _⟩ => ⟨S2x8x2048x7168, .f32⟩
  | .hbm, ⟨8, _⟩ => ⟨S1x8x2048x7168, .f32⟩
  | .hbm, ⟨9, _⟩ => ⟨S8x2048x7168, .f32⟩
  | .hbm, ⟨10, _⟩ => ⟨S_, .i32⟩
  | .hbm, ⟨11, _⟩ => ⟨S136, .i32⟩
  | .hbm, ⟨12, _⟩ => ⟨S136, .i1⟩
  | .hbm, ⟨13, _⟩ => ⟨S_, .i32⟩
  | .hbm, ⟨14, _⟩ => ⟨S136, .i32⟩
  | .hbm, ⟨15, _⟩ => ⟨S136, .i32⟩
  | .hbm, ⟨16, _⟩ => ⟨S136, .i32⟩
  | .hbm, ⟨17, _⟩ => ⟨S136x1, .i32⟩
  | .hbm, ⟨18, _⟩ => ⟨S136x2048x7168, .f32⟩
  | .hbm, ⟨19, _⟩ => ⟨S2x8x2048x7168, .f32⟩
  | .hbm, ⟨20, _⟩ => ⟨S1x8x2048x7168, .f32⟩
  | .hbm, ⟨21, _⟩ => ⟨S8x2048x7168, .f32⟩
  | .hbm, ⟨22, _⟩ => ⟨S_, .i32⟩
  | .hbm, ⟨23, _⟩ => ⟨S136, .i32⟩
  | .hbm, ⟨24, _⟩ => ⟨S136, .i1⟩
  | .hbm, ⟨25, _⟩ => ⟨S_, .i32⟩
  | .hbm, ⟨26, _⟩ => ⟨S136, .i32⟩
  | .hbm, ⟨27, _⟩ => ⟨S136, .i32⟩
  | .hbm, ⟨28, _⟩ => ⟨S136, .i32⟩
  | .hbm, ⟨29, _⟩ => ⟨S136x1, .i32⟩
  | .hbm, ⟨30, _⟩ => ⟨S136x2048x7168, .f32⟩
  | .hbm, ⟨31, _⟩ => ⟨S2x8x7168x2048, .f32⟩
  | .hbm, ⟨32, _⟩ => ⟨S1x8x7168x2048, .f32⟩
  | .hbm, ⟨33, _⟩ => ⟨S8x7168x2048, .f32⟩
  | .hbm, ⟨34, _⟩ => ⟨S_, .i32⟩
  | .hbm, ⟨35, _⟩ => ⟨S136, .i32⟩
  | .hbm, ⟨36, _⟩ => ⟨S136, .i1⟩
  | .hbm, ⟨37, _⟩ => ⟨S_, .i32⟩
  | .hbm, ⟨38, _⟩ => ⟨S136, .i32⟩
  | .hbm, ⟨39, _⟩ => ⟨S136, .i32⟩
  | .hbm, ⟨40, _⟩ => ⟨S136, .i32⟩
  | .hbm, ⟨41, _⟩ => ⟨S136x1, .i32⟩
  | .hbm, ⟨42, _⟩ => ⟨S136x7168x2048, .f32⟩
  | .hbm, ⟨43, _⟩ => ⟨S136x512x7168, .f32⟩
  | .hbm, ⟨44, _⟩ => ⟨S136x512x7168, .f32⟩
  | .hbm, ⟨45, _⟩ => ⟨S136x512x7168, .f32⟩
  | .hbm, ⟨46, _⟩ => ⟨S_, .f32⟩
  | .hbm, ⟨47, _⟩ => ⟨S136x512x7168, .f32⟩
  | .hbm, ⟨48, _⟩ => ⟨S136x512x7168, .f32⟩
  | .hbm, ⟨49, _⟩ => ⟨S_, .f32⟩
  | .hbm, ⟨50, _⟩ => ⟨S136x512x7168, .f32⟩
  | .hbm, ⟨51, _⟩ => ⟨S136x512x7168, .f32⟩
  | .hbm, ⟨52, _⟩ => ⟨S136x512x7168, .f32⟩
  | .hbm, ⟨53, _⟩ => ⟨S136x512x7168, .f32⟩
  | .hbm, ⟨54, _⟩ => ⟨S136x512x7168, .f32⟩
  | .hbm, ⟨55, _⟩ => ⟨S136x512x2048, .f32⟩
  | .hbm, ⟨56, _⟩ => ⟨S136, .i32⟩
  | .hbm, ⟨57, _⟩ => ⟨S_, .i32⟩
  | .hbm, ⟨58, _⟩ => ⟨S136, .i32⟩
  | .hbm, ⟨59, _⟩ => ⟨S136, .i1⟩
  | .hbm, ⟨60, _⟩ => ⟨S136x1x1, .i1⟩
  | .hbm, ⟨61, _⟩ => ⟨S_, .f32⟩
  | .hbm, ⟨62, _⟩ => ⟨S_, .f32⟩
  | .hbm, ⟨63, _⟩ => ⟨S136x512x2048, .i1⟩
  | .hbm, ⟨64, _⟩ => ⟨S136x512x2048, .f32⟩
  | .hbm, ⟨65, _⟩ => ⟨S136x512x2048, .f32⟩
  | .hbm, ⟨66, _⟩ => ⟨S69632x2048, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Softmax.lean ====
/- Softmax over a window that masks more keys than it keeps, in powers of two, against softmax over the
   kept keys alone, in powers of e: the one equation of extended reals the attention claim rests on. -/
module

public import Idealize.ShloMosaic.Lib.Pointwise

@[expose] public section

noncomputable section

namespace Cert.Softmax

open Idealize.ShloMosaic

/-- A weighted mean with the weights `2 ^ (s j - max s)`, divided after the sum: the row the kernel computes. -/
def rowTwo {ι : Type} [Fintype ι] (s v : ι → EReal) : EReal :=
  Ideal.div (∑ j, Ideal.exp2 (s j - Finset.univ.fold max ⊥ s) * v j)
    (∑ j, Ideal.exp2 (s j - Finset.univ.fold max ⊥ s))

/-- A weighted mean with the weights `e ^ (a k - max a)`, divided before the sum: the row the reference computes. -/
def rowExp {κ : Type} [Fintype κ] (a v : κ → EReal) : EReal :=
  ∑ k, v k * Ideal.div (Ideal.exp (a k - Finset.univ.fold max ⊥ a))
    (∑ k', Ideal.exp (a k' - Finset.univ.fold max ⊥ a))

/-- A real factor that is not negative goes into a finite sum of extended reals. -/
theorem sum_mul_real {κ : Type} (t : Finset κ) (f : κ → EReal) {r : ℝ} (hr : 0 ≤ r) :
    (∑ k ∈ t, f k) * (r : EReal) = ∑ k ∈ t, f k * (r : EReal) := by
  classical
  induction t using Finset.induction_on with
  | empty => simp
  | insert x t hx ih =>
    rw [Finset.sum_insert hx, Finset.sum_insert hx, ← ih]
    exact EReal.right_distrib_of_nonneg_of_ne_top (by exact_mod_cast hr) (EReal.coe_ne_top r) _ _

/-- A finite sum of reals, taken in the extended reals, is the real sum. -/
theorem sum_real {κ : Type} [Fintype κ] (w : κ → ℝ) : ∑ k, (w k : EReal) = ((∑ k, w k : ℝ) : EReal) := by
  classical
  have h : ∀ t : Finset κ, ∑ k ∈ t, (w k : EReal) = ((∑ k ∈ t, w k : ℝ) : EReal) := by
    intro t
    induction t using Finset.induction_on with
    | empty => simp
    | insert x t hx ih => rw [Finset.sum_insert hx, Finset.sum_insert hx, ih, EReal.coe_add]
  exact h _

/-- The maximum of scores that are real or `⊥`, one of them real, is real and is taken. -/
theorem max_real {κ : Type} [Fintype κ] (a : κ → EReal) (ha : ∀ k, a k ≠ ⊤) (k₁ : κ) (h₁ : a k₁ ≠ ⊥) :
    ∃ A : ℝ, Finset.univ.fold max ⊥ a = (A : EReal) ∧ (∀ k, a k ≤ (A : EReal)) ∧ ∃ k, a k = (A : EReal) := by
  have hs : Finset.univ.fold max ⊥ a = Finset.univ.sup a := rfl
  obtain ⟨k₀, -, hk₀⟩ := Finset.exists_mem_eq_sup (Finset.univ : Finset κ) ⟨k₁, Finset.mem_univ _⟩ a
  have hle : ∀ k, a k ≤ Finset.univ.sup a := fun k => Finset.le_sup (Finset.mem_univ k)
  have hbot : a k₀ ≠ ⊥ := fun h => h₁ (le_bot_iff.mp (h ▸ hk₀ ▸ hle k₁))
  have hA : a k₀ = ((a k₀).toReal : EReal) := (EReal.coe_toReal (ha k₀) hbot).symm
  refine ⟨(a k₀).toReal, ?_, fun k => ?_, k₀, hA⟩
  · rw [hs, hk₀]; exact hA
  · rw [← hA, ← hk₀]; exact hle k

/-- `2 ^ ((x - A) / ln 2) = e ^ (x - A)`, also at `x = ⊥`. -/
theorem exp2_scaled (x : EReal) (hx : x ≠ ⊤) (A : ℝ) :
    Ideal.exp2 ((((Real.log 2)⁻¹ : ℝ) : EReal) * x - (((Real.log 2)⁻¹ * A : ℝ) : EReal)) = Ideal.exp (x - (A : EReal)) := by
  have hl : 0 < Real.log 2 := Real.log_pos (by norm_num)
  induction x with
  | bot => rw [EReal.coe_mul_bot_of_pos (inv_pos.mpr hl)]; simp [EReal.bot_sub]
  | top => exact absurd rfl hx
  | coe r =>
    rw [← EReal.coe_mul, ← EReal.coe_sub, ← EReal.coe_sub, Ideal.exp2_coe, Ideal.exp_coe, ← mul_sub]
    congr 1
    show (2 : ℝ) ^ ((Real.log 2)⁻¹ * (r - A)) = Real.exp (r - A)
    rw [Real.rpow_def_of_pos (by norm_num)]
    congr 1
    field_simp

/-- The kernel's row is the reference's. The kernel's scores are the reference's over `ln 2` where `e` places
    them, and `⊥` everywhere else; no score is `⊤` and one is real. Nothing is asked of the values `v`. -/
theorem rowTwo_eq_rowExp {ι κ : Type} [Fintype ι] [Fintype κ] (e : κ → ι) (he : Function.Injective e)
    (s v : ι → EReal) (a w : κ → EReal) (hs : ∀ k, s (e k) = (((Real.log 2)⁻¹ : ℝ) : EReal) * a k)
    (hoff : ∀ j, j ∉ Set.range e → s j = ⊥) (hv : ∀ k, w k = v (e k))
    (ha : ∀ k, a k ≠ ⊤) (k₁ : κ) (h₁ : a k₁ ≠ ⊥) : rowTwo s v = rowExp a w := by
  have hl : 0 < Real.log 2 := Real.log_pos (by norm_num)
  obtain ⟨A, hA, hle, k₀, hk₀⟩ := max_real a ha k₁ h₁
  have hM : Finset.univ.fold max ⊥ s = (((Real.log 2)⁻¹ * A : ℝ) : EReal) := by
    show Finset.univ.sup s = _
    refine le_antisymm (Finset.sup_le fun j _ => ?_) ?_
    · by_cases hj : j ∈ Set.range e
      · obtain ⟨k, rfl⟩ := hj
        rw [hs, EReal.coe_mul]
        exact mul_le_mul_of_nonneg_left (hle k) (by exact_mod_cast (inv_pos.mpr hl).le)
      · rw [hoff j hj]; exact bot_le
    · rw [EReal.coe_mul, ← hk₀, ← hs]; exact Finset.le_sup (Finset.mem_univ _)
  have hw : ∀ k, ∃ r : ℝ, 0 ≤ r ∧ Ideal.exp (a k - (A : EReal)) = (r : EReal) := by
    intro k
    have hk := ha k
    revert hk
    induction a k with
    | bot => intro _; exact ⟨0, le_rfl, by simp [EReal.bot_sub]⟩
    | top => intro h; exact absurd rfl h
    | coe r => intro _; exact ⟨Real.exp (r - A), (Real.exp_pos _).le, by rw [← EReal.coe_sub, Ideal.exp_coe]⟩
  choose p hp0 hp using hw
  have hon : ∀ k, Ideal.exp2 (s (e k) - (((Real.log 2)⁻¹ * A : ℝ) : EReal)) = (p k : EReal) := fun k => by
    rw [hs, exp2_scaled _ (ha k), hp]
  have hz : ∀ j, j ∉ Set.range e → Ideal.exp2 (s j - (((Real.log 2)⁻¹ * A : ℝ) : EReal)) = 0 := fun j hj => by
    rw [hoff j hj, EReal.bot_sub]; rfl
  have hsum : 0 < ∑ k, p k := by
    refine Finset.sum_pos' (fun k _ => hp0 k) ⟨k₀, Finset.mem_univ _, ?_⟩
    have : (p k₀ : EReal) = 1 := by
      rw [← hp, hk₀, ← EReal.coe_sub, Ideal.exp_coe, sub_self, Real.exp_zero]; rfl
    have h1 : p k₀ = 1 := by exact_mod_cast this
    rw [h1]; exact one_pos
  unfold rowTwo rowExp
  rw [hM, hA, ← Fintype.sum_of_injective e he (fun k => (p k : EReal) * w k) _
      (fun j hj => by rw [hz j hj, zero_mul]) (fun k => by rw [hon, hv]),
    ← Fintype.sum_of_injective e he (fun k => (p k : EReal)) _ hz (fun k => (hon k).symm)]
  simp only [hp, sum_real, Ideal.div_coe hsum.ne']
  rw [sum_mul_real _ _ (one_div_nonneg.mpr hsum.le)]
  exact Finset.sum_congr rfl fun k _ => by rw [mul_comm (p k : EReal) (w k), mul_assoc]

end Cert.Softmax

end
-- ==== Proof.Unit.lean ====
/- What the attention kernel computes for one pair of heads and one tile of 256 queries: the four stores of a
   grid point all store `pair`, of their own slices of the blocks. Read at an index, it is the
   weighted mean `Softmax.rowTwo` of the values, with the scores of the head the lane belongs to. -/
module

public import proofs.«01_k».proof.Proof.Softmax
public import proofs.«01_k».proof.Proof.Gen.KernelIdeal.Skeleton
public import Idealize.ShloMosaic.Lib.WordCmp

@[expose] public section

noncomputable section

namespace Cert.Unit

open Cert.KernelIdeal Cert.KernelIdeal.Gen Cert.Softmax Idealize.ShloMosaic Idealize.ShloMosaic.Pointwise

/-- The lane number, at every element of a tile. -/
def lanes : IVec S256x128 32 := iota .tc S256x128 32 [1] iota_S256x128_d1_w32

/-- The scores of the head on lanes `lo ≤ lane < hi`: its queries against the window's keys, plus its bias over `ln 2`. -/
def scores (lo hi : BitVec 32) (q : Vec Ideal S1x1x256x128 .bf16) (k : Vec Ideal S1x1x768x128 .bf16)
    (b : Vec Ideal S1x1x256x768 .f32) : FVec Ideal S256x768 .f32 :=
  addf
    (matmul (φ₂ := .bf16) dot_S256x128_S768x128_S256x768_1_1_0_0_n_n none
      (select (andi (cmpi .sge lanes (broadcast S256x128 lo)) (cmpi .slt lanes (broadcast S256x128 hi)))
        (shapeCast S256x128 q shapeCasts_S1x1x256x128_S256x128) (broadcast S256x128 (Scalar.ofBits .bf16 0x0000#16)))
      (shapeCast S768x128 k shapeCasts_S1x1x768x128_S768x128) (constant S256x768 .f32 0x00000000#32))
    (mulf (shapeCast S256x768 b shapeCasts_S1x1x256x768_S256x768)
      (broadcast S256x768 (Named.named κ "log2e" 0x3FB8AA3B#32)))

/-- The scores, with the padding keys before the sequence masked away. -/
def masked (start : BitVec 32) (s : FVec Ideal S256x768 .f32) : FVec Ideal S256x768 .f32 :=
  select (k0_pay3 start) s (broadcast S256x768 (Named.named κ "mask" 0xF149F2CA#32))

/-- The weights of a tile of scores: powers of two, each row over its own maximum. -/
def weights (s : FVec Ideal S256x768 .f32) : FVec Ideal S256x768 .f32 :=
  exp2 (subf s (broadcastTo S256x768
    (shapeCast S256x1 (multiReduction .maximumf [1] S256 s 0xFF800000#32 reduces_S256x768_S256 (.inl rfl) rfl)
      shapeCasts_S256_S256x1) broadcasts_S256x1_S256x768))

/-- The values' mean under the weights, on all the lanes of the pair. -/
def mean (s : FVec Ideal S256x768 .f32) (v : Vec Ideal S1x1x768x128 .bf16) : FVec Ideal S256x128 .f32 :=
  divf
    (matmul (φ₂ := .bf16) dot_S256x768_S768x128_S256x128_1_0_0_1_n_n none (truncf .bf16 (weights s) bitsLt_bf16_f32)
      (shapeCast S768x128 v shapeCasts_S1x1x768x128_S768x128) (constant S256x128 .f32 0x00000000#32))
    (broadcastTo S256x128
      (shapeCast S256x1 (multiReduction .add [1] S256 (weights s) 0x00000000#32 reduces_S256x768_S256 (.inl rfl) rfl)
        shapeCasts_S256_S256x1) broadcasts_S256x1_S256x128)

/-- The stored tile of a pair of heads: each lane from the mean of its own head. -/
def pair (s₀ s₁ : FVec Ideal S256x768 .f32) (v : Vec Ideal S1x1x768x128 .bf16) : FVec Ideal S1x1x256x128 .bf16 :=
  shapeCast S1x1x256x128
    (truncf .bf16 (select (cmpi .slt lanes (broadcast S256x128 64#32)) (mean s₀ v) (mean s₁ v)) bitsLt_bf16_f32)
    shapeCasts_S256x128_S1x1x256x128

/-- The bits of minus infinity. -/
theorem neg_inf : Ideal.ofBits .f32 0xFF800000#32 = ⊥ := by
  simp [Ideal.ofBits, Ideal.ieee]

/-- The named factor of the bias is `1 / ln 2`. -/
theorem log2e_val : (Named.named κ "log2e" 0x3FB8AA3B#32 : Ideal .f32) = (((Real.log 2)⁻¹ : ℝ) : EReal) :=
  IdealRules.named_const.ideal_named_scalar _ _ _ _ rfl

/-- The named mask is `⊥`. -/
theorem mask_val : (Named.named κ "mask" 0xF149F2CA#32 : Ideal .f32) = (⊥ : EReal) :=
  IdealRules.named_const.ideal_named_scalar _ _ _ _ rfl

/-- The weights at an index. -/
theorem weights_at (s : FVec Ideal S256x768 .f32) (r : Fin 256) (j : Fin 768) :
    weights s (ix2 r j) = Ideal.exp2 (s (ix2 r j) - Finset.univ.fold max ⊥ fun j' => s (ix2 r j')) := by
  pointwise [weights, neg_inf]
  rfl

/-- The mean at an index is the row mean of the values. -/
theorem mean_at (s : FVec Ideal S256x768 .f32) (v : Vec Ideal S1x1x768x128 .bf16) (r : Fin 256) (l : Fin 128) :
    mean s v (ix2 r l) = rowTwo (fun j => s (ix2 r j)) fun j => v (ix4 0 0 j l) := by
  pointwise [mean, weights_at, rowTwo]

/-- The stored tile at an index: the head of the lane decides which scores it reads. -/
theorem pair_at (s₀ s₁ : FVec Ideal S256x768 .f32) (v : Vec Ideal S1x1x768x128 .bf16) (a b : Fin 1) (r : Fin 256)
    (l : Fin 128) :
    pair s₀ s₁ v (ix4 a b r l)
      = rowTwo (fun j => if l.val < 64 then s₀ (ix2 r j) else s₁ (ix2 r j)) fun j => v (ix4 0 0 j l) := by
  pointwise [pair, mean_at, lanes]
  simp (disch := omega) only [hlo_ix]
  split <;> rfl

/-- The scores at an index: over the head's own 64 lanes. -/
theorem scores_at (h : Fin 2) (q : Vec Ideal S1x1x256x128 .bf16) (k : Vec Ideal S1x1x768x128 .bf16)
    (b : Vec Ideal S1x1x256x768 .f32) (r : Fin 256) (j : Fin 768) :
    scores (BitVec.ofNat 32 (64 * h.val)) (BitVec.ofNat 32 (64 * h.val + 64)) q k b (ix2 r j)
      = (∑ d : Fin 64, q (ix4 0 0 r ⟨64 * h.val + d.val, by omega⟩) * k (ix4 0 0 j ⟨64 * h.val + d.val, by omega⟩))
        + b (ix4 0 0 r j) * (((Real.log 2)⁻¹ : ℝ) : EReal) := by
  pointwise [scores, lanes, log2e_val]
  congr 1
  refine (Fintype.sum_of_injective (fun d : Fin 64 => (⟨64 * h.val + d.val, by omega⟩ : Fin 128))
    (fun a b e => Fin.ext (by have := congrArg Fin.val e; simp only at this; omega)) _ _ (fun x hx => ?_) fun d => ?_).symm
  · have hn : ¬(64 * h.val ≤ x.val ∧ x.val < 64 * h.val + 64) := fun hh =>
      hx ⟨⟨x.val - 64 * h.val, by omega⟩, Fin.ext (by simp only; omega)⟩
    simp (disch := omega) only [hlo_ix]
    rw [if_neg (by simpa using hn)]
  · simp (disch := omega) only [hlo_ix]
    rw [if_pos (by simp)]

/-- The masked scores at an index. -/
theorem masked_at (i : Nat) (hi : i < 16) (s : FVec Ideal S256x768 .f32) (r : Fin 256) (j : Fin 768) :
    masked (BitVec.ofNat 32 (256 * i)) s (ix2 r j) = if 512 ≤ 256 * i + j.val then s (ix2 r j) else (⊥ : EReal) := by
  pointwise [masked, k0_pay3, mask_val]
  rw [show IntOp.addi (BitVec.ofNat 32 j.val) (BitVec.ofNat 32 (256 * i)) = BitVec.ofNat 32 (256 * i + j.val) by
    rw [Nat.add_comm]; exact (BitVec.ofNat_add _ _).symm]
  simp (disch := omega) only [hlo_ix]

end Cert.Unit

end
-- ==== Proof.Tile.lean ====
/- The tile of 256 queries by 128 lanes that one grid point of the attention kernel computes for one pair of heads: at
   every index the row mean `Softmax.rowTwo` of the values in the window of 768 keys that starts 512 before the tile. -/
module

public import proofs.«01_k».proof.Proof.Unit
public import proofs.«01_k».proof.Proof.Gen.KernelIdeal.Frame
public import Idealize.ShloMosaic.Lib.Pipeline.ValueKit

@[expose] public section

noncomputable section

namespace Cert.Point

open Cert.KernelIdeal Cert.KernelIdeal.Gen Cert.Softmax Cert.Unit Idealize.ShloMosaic Idealize.ShloMosaic.Pointwise
open Idealize.ShloMosaic.TcCoe Idealize.SL.Sem
open Idealize.ShloMosaic.Pipeline (Dat)

variable (m : (ℓ : Loc nD τ sig) → Buf (Elt Ideal) ℓ)

set_option maxRecDepth 16384

/-- The score of query `y` and the `j`-th key of its tile's window, in powers of two. -/
def score (q : S8x16x4096x128.Idx → EReal) (k : S8x16x4608x128.Idx → EReal) (b : S16x2x256x768.Idx → EReal)
    (a0 : Fin 8) (a1 : Fin 16) (a2 : Fin 4096) (a3 : Fin 128) (j : Fin 768) : EReal :=
  if 512 ≤ 256 * (a2.val / 256) + j.val then
    (∑ d : Fin 64, q (ix4 a0 a1 a2 ⟨64 * (a3.val / 64) + d.val, by omega⟩)
        * k (ix4 a0 a1 ⟨256 * (a2.val / 256) + j.val, by omega⟩ ⟨64 * (a3.val / 64) + d.val, by omega⟩))
      + b (ix4 a1 ⟨a3.val / 64, by omega⟩ ⟨a2.val % 256, by omega⟩ j) * (((Real.log 2)⁻¹ : ℝ) : EReal)
  else ⊥

/-- The attention as the kernel computes it, from queries, keys, values and tiles of bias. -/
def attn (q : S8x16x4096x128.Idx → EReal) (k v : S8x16x4608x128.Idx → EReal) (b : S16x2x256x768.Idx → EReal)
    (a0 : Fin 8) (a1 : Fin 16) (a2 : Fin 4096) (a3 : Fin 128) : EReal :=
  rowTwo (score q k b a0 a1 a2 a3) fun j => v (ix4 a0 a1 ⟨256 * (a2.val / 256) + j.val, by omega⟩ a3)

/-- Where the windows of grid point `t` lie. -/
theorem idx : ∀ t : Fin cfg0.N, win0_0.index t = ![t.val / 16 % 8, t.val / 128, t.val % 16, 0]
    ∧ win0_1.index t = ![t.val / 16 % 8, t.val / 128, 0, 0] ∧ win0_2.index t = ![t.val / 16 % 8, t.val / 128, 0, 0]
    ∧ win0_3.index t = ![t.val / 128, 0, 0, 0] ∧ win0_4.index t = ![t.val / 16 % 8, t.val / 128, t.val % 16, 0] :=
  (by decide +kernel : ∀ t : Fin grid0.N, _)

/-- The first key of a grid point's window, as the kernel's word. -/
theorem start_word : ∀ t : Fin cfg0.N,
    Scalar.muli (BitVec.ofNat 32 (grid0.coords t 2).val) 256#32 = BitVec.ofNat 32 (256 * (t.val % 16)) :=
  (by decide +kernel : ∀ t : Fin grid0.N, _)

/-- The offsets at which the key and value windows are loaded: one list for the points that mask, one for those that
    do not. -/
def offs (p : Fin 4) : (grid0.Coords → Fin 4 → Nat) × (grid0.Coords → Fin 4 → Nat) :=
  match p with
  | 0 => (k0_off1, k0_off5)
  | 1 => (k0_off2, k0_off6)
  | 2 => (k0_off3, k0_off7)
  | 3 => (k0_off4, k0_off8)

theorem offs_eq : ∀ (p : Fin 4) (t : Fin cfg0.N), (offs p).1 (grid0.coords t) = ![0, p.val, 256 * (t.val % 16), 0]
    ∧ (offs p).2 (grid0.coords t) = ![0, p.val, 256 * (t.val % 16), 0] :=
  (by decide +kernel : ∀ (p : Fin 4) (t : Fin grid0.N), _)

theorem inb_q : ∀ (p : Fin 4) (a : Fin 4),
    (![0, p.val, 0, 0] : Fin 4 → Nat) a + S1x1x256x128.size a ≤ S1x4x256x128.size a := by decide

theorem inb_k (t : Fin cfg0.N) (p : Fin 4) (off : Fin 4 → Nat) (hoff : off = ![0, p.val, 256 * (t.val % 16), 0]) (a : Fin 4) :
    off a + S1x1x768x128.size a ≤ S1x4x4608x128.size a := by
  subst hoff
  fin_cases a
  · exact Nat.le_refl 1
  · exact (p.isLt : p.val + 1 ≤ 4)
  · exact (by omega : 256 * (t.val % 16) + 768 ≤ 4608)
  · exact Nat.le_refl 128

theorem inb_b : ∀ (p : Fin 4) (h : Fin 2) (a : Fin 4),
    (![p.val, h.val, 0, 0] : Fin 4 → Nat) a + S1x1x256x768.size a ≤ S4x2x256x768.size a := by decide

/-- The queries a grid point reads for pair `p`. -/
theorem read_q (c : Dev nD) (t : Fin cfg0.N) (p : Fin 4) (r : Fin 256) (d : Fin 128)
    (i0 : Fin 8) (i1 : Fin 16) (i2 : Fin 4096) (i3 : Fin 128)
    (e0 : i0.val = t.val / 16 % 8) (e1 : i1.val = 4 * (t.val / 128) + p.val)
    (e2 : i2.val = 256 * (t.val % 16) + r.val) (e3 : i3.val = d.val) :
    View.ld (iblk m c 0 t) (Rect.unit (s := S1x4x256x128) ![0, p.val, 0, 0] ![1, 1, 256, 128] (inb_q p)) (ix4 0 0 r d)
      = V m c main_arg0 (ix4 i0 i1 i2 i3) := by
  refine (View.ld_unit_apply_of _ _ _ _ _ (ix4 0 p r d) (fun a => ?_)).trans ?_
  · fin_cases a <;> first | rfl | exact (Nat.zero_add _).symm
  · blk_ext [iblk, idx t]

/-- The keys of a grid point's window for pair `p`. -/
theorem read_k (c : Dev nD) (t : Fin cfg0.N) (p : Fin 4) (off : Fin 4 → Nat)
    (hoff : off = ![0, p.val, 256 * (t.val % 16), 0]) (j : Fin 768) (d : Fin 128)
    (i0 : Fin 8) (i1 : Fin 16) (i2 : Fin 4608) (i3 : Fin 128)
    (e0 : i0.val = t.val / 16 % 8) (e1 : i1.val = 4 * (t.val / 128) + p.val)
    (e2 : i2.val = 256 * (t.val % 16) + j.val) (e3 : i3.val = d.val) :
    View.ld (iblk m c 1 t) (Rect.unit (s := S1x4x4608x128) off ![1, 1, 768, 128] (inb_k t p off hoff)) (ix4 0 0 j d)
      = V m c main_arg1 (ix4 i0 i1 i2 i3) := by
  subst hoff
  refine (View.ld_unit_apply_of _ _ _ _ _ (ix4 0 p ⟨256 * (t.val % 16) + j.val, by omega⟩ d) (fun a => ?_)).trans ?_
  · fin_cases a <;> first | rfl | exact (Nat.zero_add _).symm
  · blk_ext [iblk, idx t]

/-- The values of a grid point's window for pair `p`. -/
theorem read_v (c : Dev nD) (t : Fin cfg0.N) (p : Fin 4) (off : Fin 4 → Nat)
    (hoff : off = ![0, p.val, 256 * (t.val % 16), 0]) (j : Fin 768) (d : Fin 128)
    (i0 : Fin 8) (i1 : Fin 16) (i2 : Fin 4608) (i3 : Fin 128)
    (e0 : i0.val = t.val / 16 % 8) (e1 : i1.val = 4 * (t.val / 128) + p.val)
    (e2 : i2.val = 256 * (t.val % 16) + j.val) (e3 : i3.val = d.val) :
    View.ld (iblk m c 2 t) (Rect.unit (s := S1x4x4608x128) off ![1, 1, 768, 128] (inb_k t p off hoff)) (ix4 0 0 j d)
      = V m c main_arg2 (ix4 i0 i1 i2 i3) := by
  subst hoff
  refine (View.ld_unit_apply_of _ _ _ _ _ (ix4 0 p ⟨256 * (t.val % 16) + j.val, by omega⟩ d) (fun a => ?_)).trans ?_
  · fin_cases a <;> first | rfl | exact (Nat.zero_add _).symm
  · blk_ext [iblk, idx t]

/-- The bias tile a grid point reads for head `h` of pair `p`. -/
theorem read_b (c : Dev nD) (t : Fin cfg0.N) (p : Fin 4) (h : Fin 2) (r : Fin 256) (j : Fin 768)
    (i0 : Fin 16) (i1 : Fin 2) (i2 : Fin 256) (i3 : Fin 768)
    (e0 : i0.val = 4 * (t.val / 128) + p.val) (e1 : i1.val = h.val) (e2 : i2.val = r.val)
    (e3 : i3.val = j.val) :
    View.ld (iblk m c 3 t) (Rect.unit (s := S4x2x256x768) ![p.val, h.val, 0, 0] ![1, 1, 256, 768] (inb_b p h)) (ix4 0 0 r j)
      = V m c main_v36 (ix4 i0 i1 i2 i3) := by
  refine (View.ld_unit_apply_of _ _ _ _ _ (ix4 p h r j) (fun a => ?_)).trans ?_
  · fin_cases a <;> first | rfl | exact (Nat.zero_add _).symm
  · blk_ext [iblk, idx t]

/-- The tile of pair `p` that grid point `t` computes, `f` being the point's masking of the scores. -/
def tile (c : Dev nD) (t : Fin cfg0.N) (p : Fin 4) (off : Fin 4 → Nat) (hoff : off = ![0, p.val, 256 * (t.val % 16), 0])
    (f : FVec Ideal S256x768 .f32 → FVec Ideal S256x768 .f32) : FVec Ideal S1x1x256x128 .bf16 :=
  pair
    (f (scores 0#32 64#32 (View.ld (iblk m c 0 t) (Rect.unit (s := S1x4x256x128) ![0, p.val, 0, 0] ![1, 1, 256, 128] (inb_q p)))
      (View.ld (iblk m c 1 t) (Rect.unit (s := S1x4x4608x128) off ![1, 1, 768, 128] (inb_k t p off hoff)))
      (View.ld (iblk m c 3 t) (Rect.unit (s := S4x2x256x768) ![p.val, 0, 0, 0] ![1, 1, 256, 768] (inb_b p 0)))))
    (f (scores 64#32 128#32 (View.ld (iblk m c 0 t) (Rect.unit (s := S1x4x256x128) ![0, p.val, 0, 0] ![1, 1, 256, 128] (inb_q p)))
      (View.ld (iblk m c 1 t) (Rect.unit (s := S1x4x4608x128) off ![1, 1, 768, 128] (inb_k t p off hoff)))
      (View.ld (iblk m c 3 t) (Rect.unit (s := S4x2x256x768) ![p.val, 1, 0, 0] ![1, 1, 256, 768] (inb_b p 1)))))
    (View.ld (iblk m c 2 t) (Rect.unit (s := S1x4x4608x128) off ![1, 1, 768, 128] (inb_k t p off hoff)))

/-- The tile at an index is the attention at the index's place in the result. -/
theorem tile_at (c : Dev nD) (t : Fin cfg0.N) (p : Fin 4) (off : Fin 4 → Nat)
    (hoff : off = ![0, p.val, 256 * (t.val % 16), 0]) (f : FVec Ideal S256x768 .f32 → FVec Ideal S256x768 .f32)
    (hf : ∀ s r j, f s (ix2 r j) = if 512 ≤ 256 * (t.val % 16) + j.val then s (ix2 r j) else (⊥ : EReal))
    (a b : Fin 1) (r : Fin 256) (l : Fin 128) (i : S8x16x4096x128.Idx) (e0 : (i 0).val = t.val / 16 % 8)
    (e1 : (i 1).val = 4 * (t.val / 128) + p.val) (e2 : (i 2).val = 256 * (t.val % 16) + r.val) (e3 : (i 3).val = l.val) :
    tile m c t p off hoff f (ix4 a b r l)
      = attn (V m c main_arg0) (V m c main_arg1) (V m c main_arg2) (V m c main_v36) (i 0) (i 1) (i 2) (i 3) := by
  subst hoff
  have hN : t.val < 512 := lt_of_lt_of_eq t.isLt N_0
  unfold tile
  rw [pair_at]
  refine congrArg₂ rowTwo (funext fun j => ?_) (funext fun j => ?_)
  · unfold score
    have s0 := scores_at 0
    have s1 := scores_at 1
    simp only [Fin.val_zero, Fin.val_one, Nat.mul_zero, Nat.zero_add, Nat.mul_one, Nat.reduceAdd] at s0 s1
    rw [hf, hf, s0, s1]
    by_cases hl : l.val < 64
    · rw [if_pos hl]
      refine if_congr (by omega) (congrArg₂ (· + ·) (Finset.sum_congr rfl fun d _ => congrArg₂ (· * ·)
          (read_q m c t p r _ _ _ _ _ e0 e1 e2 ?_) (read_k m c t p _ rfl j _ _ _ _ _ e0 e1 ?_ ?_))
        (congrArg₂ (· * ·) (read_b m c t p 0 r j _ _ _ _ e1 ?_ ?_ rfl) rfl)) rfl <;> simp only [Fin.val_zero] <;> omega
    · rw [if_neg hl]
      refine if_congr (by omega) (congrArg₂ (· + ·) (Finset.sum_congr rfl fun d _ => congrArg₂ (· * ·)
          (read_q m c t p r _ _ _ _ _ e0 e1 e2 ?_) (read_k m c t p _ rfl j _ _ _ _ _ e0 e1 ?_ ?_))
        (congrArg₂ (· * ·) (read_b m c t p 1 r j _ _ _ _ e1 ?_ ?_ rfl) rfl)) rfl <;> simp only [Fin.val_one] <;> omega
  · exact read_v m c t p _ rfl j l _ _ _ _ e0 e1 (by simp only; omega) e3

/-- The tile a grid point stores lands at its place in the result. -/
theorem stored (c : Dev nD) (t : Fin cfg0.N) (p : Fin 4) (off : Fin 4 → Nat)
    (hoff : off = ![0, p.val, 256 * (t.val % 16), 0]) (f : FVec Ideal S256x768 .f32 → FVec Ideal S256x768 .f32)
    (hf : ∀ s r j, f s (ix2 r j) = if 512 ≤ 256 * (t.val % 16) + j.val then s (ix2 r j) else (⊥ : EReal))
    (y : (win0_4.rect t).shape.Idx) (x : S1x1x256x128.Idx)
    (h0 : (y 0).val = (x 0).val) (h1 : (y 1).val = p.val + (x 1).val) (h2 : (y 2).val = (x 2).val) (h3 : (y 3).val = (x 3).val) :
    tile m c t p off hoff f x
      = (fun i : S8x16x4096x128.Idx => attn (V m c main_arg0) (V m c main_arg1) (V m c main_arg2) (V m c main_v36) (i 0) (i 1) (i 2) (i 3))
          (((View.whole main_v37).slice (win0_4.rect t)).emb y) := by
  have hN : t.val < 512 := lt_of_lt_of_eq t.isLt N_0
  have x0 : (x 0).val < 1 := (x 0).isLt
  have x1 : (x 1).val < 1 := (x 1).isLt
  rw [show x = ix4 (x 0) (x 1) (x 2) (x 3) from by blk_ext []]
  refine tile_at m c t p off hoff f hf (x 0) (x 1) (x 2) (x 3) _ ?_ ?_ ?_ ?_ <;> blk_simp [idx t] <;> omega

end Cert.Point

end
-- ==== Proof.Point.lean ====
/- What the attention kernel leaves in its result: the four tiles of every grid point together are the attention at
   every index. -/
module

public import proofs.«01_k».proof.Proof.Tile

@[expose] public section

noncomputable section

namespace Cert.Point

open Cert.KernelIdeal Cert.KernelIdeal.Gen Cert.Softmax Cert.Unit Idealize.ShloMosaic Idealize.ShloMosaic.Pointwise
open Idealize.ShloMosaic.TcCoe Idealize.SL.Sem
open Idealize.ShloMosaic.Pipeline (Dat)

variable (m : (ℓ : Loc nD τ sig) → Buf (Elt Ideal) ℓ)

set_option maxRecDepth 16384

set_option maxHeartbeats 2000000 in
/-- The result array: the attention at every index. -/
theorem final (c : Dev nD) : (dats m 0 c).arrAt 4 (cfgs 0).N
    = fun i : S8x16x4096x128.Idx => attn (V m c main_arg0) (V m c main_arg1) (V m c main_arg2) (V m c main_v36) (i 0) (i 1) (i 2) (i 3) := by
  refine (dats m 0 c).arrAt_eq_of_covers 4 _ (by decide +kernel) fun t _ y => ?_
  blk_simp
  rw [after0_4]
  have hN : t.val < 512 := lt_of_lt_of_eq t.isLt N_0
  by_cases hA : t.val % 16 ≤ 1
  · rw [outsAt0_A m c t hA (by omega)]
    frame_out
    have mk := masked_at (t.val % 16) (by omega)
    rw [← start_word t] at mk
    canon_tiles x h
    case piece0 =>
      refine Eq.trans (congrFun ?_ x) (stored m c t 3 _ (offs_eq 3 t).1 (masked _) mk y x h0 h1 h2 h3)
      unfold_payloads
      dsimp only [tile, pair, mean, weights, masked, scores, lanes, k0_pay3, id]
      rfl
    case piece1 =>
      refine Eq.trans (congrFun ?_ x) (stored m c t 2 _ (offs_eq 2 t).1 (masked _) mk y x h0 h1 h2 h3)
      unfold_payloads
      dsimp only [tile, pair, mean, weights, masked, scores, lanes, k0_pay3, id]
      rfl
    case piece2 =>
      refine Eq.trans (congrFun ?_ x) (stored m c t 1 _ (offs_eq 1 t).1 (masked _) mk y x h0 h1 h2 h3)
      unfold_payloads
      dsimp only [tile, pair, mean, weights, masked, scores, lanes, k0_pay3, id]
      rfl
    case piece3 =>
      refine Eq.trans (congrFun ?_ x) (stored m c t 0 _ (offs_eq 0 t).1 (masked _) mk y x h0 (by omega) h2 h3)
      unfold_payloads
      dsimp only [tile, pair, mean, weights, masked, scores, lanes, k0_pay3, id]
      rfl
  · rw [outsAt0_B m c t hA (by omega)]
    frame_out
    have mk : ∀ (s : FVec Ideal S256x768 .f32) (r : Fin 256) (j : Fin 768),
        id s (ix2 r j) = if 512 ≤ 256 * (t.val % 16) + j.val then s (ix2 r j) else (⊥ : EReal) :=
      fun s r j => (if_pos (by omega)).symm
    canon_tiles x h
    case piece0 =>
      refine Eq.trans (congrFun ?_ x) (stored m c t 3 _ (offs_eq 3 t).2 id mk y x h0 h1 h2 h3)
      unfold_payloads
      dsimp only [tile, pair, mean, weights, masked, scores, lanes, k0_pay3, id]
      rfl
    case piece1 =>
      refine Eq.trans (congrFun ?_ x) (stored m c t 2 _ (offs_eq 2 t).2 id mk y x h0 h1 h2 h3)
      unfold_payloads
      dsimp only [tile, pair, mean, weights, masked, scores, lanes, k0_pay3, id]
      rfl
    case piece2 =>
      refine Eq.trans (congrFun ?_ x) (stored m c t 1 _ (offs_eq 1 t).2 id mk y x h0 h1 h2 h3)
      unfold_payloads
      dsimp only [tile, pair, mean, weights, masked, scores, lanes, k0_pay3, id]
      rfl
    case piece3 =>
      refine Eq.trans (congrFun ?_ x) (stored m c t 0 _ (offs_eq 0 t).2 id mk y x h0 (by omega) h2 h3)
      unfold_payloads
      dsimp only [tile, pair, mean, weights, masked, scores, lanes, k0_pay3, id]
      rfl

end Cert.Point

end
-- ==== Proof.Words.lean ====
/- The words both programs' host lines compute: the clipped distance that indexes the bias table, a division by 64, and
   the two forms in which a gather reads its table. -/
module

public import proofs.«01_k».proof.Proof.Gen.KernelIdeal.Skeleton
public import proofs.«01_k».proof.Proof.Gen.ReferenceIdeal
public import Idealize.ShloMosaic.Lib.Pointwise

@[expose] public section

noncomputable section

namespace Cert.Words

open Cert.KernelIdeal.Gen Cert.ReferenceIdeal.Gen Idealize.ShloMosaic Idealize.ShloMosaic.Pointwise

/-- The clipped and shifted distance, by the number `n` that is the distance plus 1024. -/
theorem dist_fin : ∀ n : Fin 2048,
    IntOp.addi (IntOp.minsi 128#32 (IntOp.maxsi 4294967233#32 (IntOp.subi (BitVec.ofNat 32 n.val) 1024#32))) 63#32
      = BitVec.ofNat 32 (min 191 (n.val + 63 - 1024)) := by
  decide +kernel

/-- The distance `a - b` clipped to `-63 … 128` and shifted to start at zero. -/
theorem dist_word (a b : Nat) (hb : b ≤ 1024) (hab : a + 1024 < 2048 + b) :
    IntOp.addi (IntOp.minsi 128#32 (IntOp.maxsi 4294967233#32 (IntOp.subi (BitVec.ofNat 32 a) (BitVec.ofNat 32 b)))) 63#32
      = BitVec.ofNat 32 (min 191 (a + 63 - b)) := by
  have h := dist_fin ⟨a + (1024 - b), by omega⟩
  have e : IntOp.subi (BitVec.ofNat 32 a) (BitVec.ofNat 32 b) = IntOp.subi (BitVec.ofNat 32 (a + (1024 - b))) 1024#32 := by
    show BitVec.ofNat 32 a - BitVec.ofNat 32 b = BitVec.ofNat 32 (a + (1024 - b)) - BitVec.ofNat 32 1024
    apply BitVec.eq_of_toNat_eq
    simp only [BitVec.toNat_sub, BitVec.toNat_ofNat]
    omega
  rw [e, h]
  congr 2
  simp only
  omega

/-- A small word read as a signed number. -/
theorem toNat_word (n : Nat) (hn : n < 2147483648) : (BitVec.ofNat 32 n).toInt.toNat = n := by
  rw [BitVec.toInt_eq_toNat_of_lt (by rw [BitVec.toNat_ofNat]; omega), BitVec.toNat_ofNat]
  omega

/-- The bias tables' gather of the kernel's host line, at an index. -/
theorem gather_line (x : Cert.KernelIdeal.S32x192.Idx → EReal) (idx : IVec Cert.KernelIdeal.S1024x1 32) (p : Fin 32) (n : Fin 1024) :
    Host.gather Cert.KernelIdeal.gather_S32x192_S1024x1_S32x1024_0_1_n_n_1_1_321 x idx (ix2 p n)
      = x (ix2 p ⟨min (idx (ix2 n 0)).toInt.toNat 191, by omega⟩) := by
  have hs : Cert.KernelIdeal.gather_S32x192_S1024x1_S32x1024_0_1_n_n_1_1_321.siIdx (ix2 p n) ⟨0, Nat.one_pos⟩ = ix2 n 0 := by
    funext b
    fin_cases b <;> rfl
  unfold Host.gather
  congr 1
  funext a
  apply Fin.ext
  fin_cases a
  · show 0 + 0 + p.val = p.val
    omega
  · show min (idx (Cert.KernelIdeal.gather_S32x192_S1024x1_S32x1024_0_1_n_n_1_1_321.siIdx (ix2 p n) ⟨0, Nat.one_pos⟩)).toInt.toNat 191 + 0 + 0 = _
    rw [hs]
    rfl

/-- The bias table's gather of the reference, at an index. -/
theorem gather_bias (x : Cert.ReferenceIdeal.S32x192.Idx → EReal) (idx : IVec Cert.ReferenceIdeal.S64x576x1 32) (p : Fin 32)
    (a : Fin 64) (b : Fin 576) :
    Host.gather Cert.ReferenceIdeal.gather_S32x192_S64x576x1_S32x64x576_0_1_n_n_1_2_321 x idx (ix3 p a b)
      = x (ix2 p ⟨min (idx (ix3 a b 0)).toInt.toNat 191, by omega⟩) := by
  have hs : Cert.ReferenceIdeal.gather_S32x192_S64x576x1_S32x64x576_0_1_n_n_1_2_321.siIdx (ix3 p a b) ⟨0, Nat.one_pos⟩ = ix3 a b 0 := by
    funext b
    fin_cases b <;> rfl
  unfold Host.gather
  congr 1
  funext a
  apply Fin.ext
  fin_cases a
  · show 0 + 0 + p.val = p.val
    omega
  · show min (idx (Cert.ReferenceIdeal.gather_S32x192_S64x576x1_S32x64x576_0_1_n_n_1_2_321.siIdx (ix3 p _ _) ⟨0, Nat.one_pos⟩)).toInt.toNat 191 + 0 + 0 = _
    rw [hs]
    rfl

/-- The keys' (and values') gather of the reference, at an index. -/
theorem gather_window (x : Cert.ReferenceIdeal.S8x16x4608x2x64.Idx → EReal) (idx : IVec Cert.ReferenceIdeal.S64x576x1 32) (a : Fin 8)
    (p : Fin 16) (c : Fin 64) (k : Fin 576) (h : Fin 2) (d : Fin 64) :
    Host.gather Cert.ReferenceIdeal.gather_S8x16x4608x2x64_S64x576x1_S8x16x64x576x2x64_0145_2_n_n_2_2_8161264 x idx (ix6 a p c k h d)
      = x (ix5 a p ⟨min (idx (ix3 c k 0)).toInt.toNat 4607, by omega⟩ h d) := by
  have hs : Cert.ReferenceIdeal.gather_S8x16x4608x2x64_S64x576x1_S8x16x64x576x2x64_0145_2_n_n_2_2_8161264.siIdx (ix6 a p c k h d) ⟨0, Nat.one_pos⟩
      = ix3 c k 0 := by
    funext b
    fin_cases b <;> rfl
  unfold Host.gather
  congr 1
  funext e
  apply Fin.ext
  fin_cases e
  · show 0 + 0 + a.val = a.val
    omega
  · show 0 + 0 + p.val = p.val
    omega
  · show min (idx (Cert.ReferenceIdeal.gather_S8x16x4608x2x64_S64x576x1_S8x16x64x576x2x64_0145_2_n_n_2_2_8161264.siIdx (ix6 a p c k h d) ⟨0, Nat.one_pos⟩)).toInt.toNat 4607 + 0 + 0 = _
    rw [hs]
    rfl
  · show 0 + 0 + h.val = h.val
    omega
  · show 0 + 0 + d.val = d.val
    omega

end Cert.Words

end
-- ==== Proof.Bias.lean ====
/- The tiles of bias the attention kernel's host line makes, at an index: the row of the bias table at the clipped
   distance of query and key inside the band of nine chunks, `⊥` outside it. -/
module

public import proofs.«01_k».proof.Proof.Words
public import proofs.«01_k».proof.Proof.Unit
public import proofs.«01_k».proof.Proof.Gen.KernelIdeal.Frame

@[expose] public section

noncomputable section

namespace Cert.Bias

open Cert.KernelIdeal Cert.KernelIdeal.Gen Cert.Words Idealize.ShloMosaic Idealize.ShloMosaic.Pointwise
open Idealize.ShloMosaic.TcCoe Idealize.SL.Sem

set_option maxRecDepth 16384

/-- The table position of each distance, one line of 1024. -/
def line : IVec S1024 32 :=
  addi (minsi (broadcastInDim S1024 ![] bcast_S_S1024 (constantI S_ 32 128#32))
    (maxsi (broadcastInDim S1024 ![] bcast_S_S1024 (constantI S_ 32 4294967233#32))
      (subi (broadcastInDim S1024 ![] bcast_S_S1024 (constantI S_ 32 767#32)) (iotaInDim S1024 32 0))))
    (broadcastInDim S1024 ![] bcast_S_S1024 (constantI S_ 32 63#32))

/-- The positions, negative ones counted from the table's end (there are none). -/
def positions : IVec S1024x1 32 :=
  broadcastInDim S1024x1 ![0] bcast_S1024_S1024x1_0
    (select (cmpi .slt line (broadcastInDim S1024 ![] bcast_S_S1024 (constantI S_ 32 0#32)))
      (addi line (broadcastInDim S1024 ![] bcast_S_S1024 (constantI S_ 32 192#32))) line)

/-- The bias of each head along the line. -/
def along (rel : Vec Ideal S32x192 .f32) : Vec Ideal S32x1024 .f32 :=
  Host.gather gather_S32x192_S1024x1_S32x1024_0_1_n_n_1_1_321 rel positions

/-- The line laid out once per query, each query's copy one place further on. -/
def laid (x : Vec Ideal S32x1024 .f32) : Vec Ideal S32x256x768 .f32 :=
  extractStridedSlice S32x256x768 ![0, 0, 255]
    (shapeCast S32x256x1023
      (extractStridedSlice S32x261888 ![0, 0]
        (shapeCast S32x262144
          (broadcastInDim S1x32x256x1024 ![0, 1, 2, 3] bcast_S1x32x1x1024_S1x32x256x1024_0_1_2_3
            (shapeCast S1x32x1x1024 x shapeCasts_S32x1024_S1x32x1x1024))
          shapeCasts_S1x32x256x1024_S32x262144)
        slices_S32x262144_S32x261888_0_0)
      shapeCasts_S32x261888_S32x256x1023)
    slices_S32x256x1023_S32x256x768_0_0_255

/-- The chunk of each query of a tile. -/
def rows : IVec S256x1 32 :=
  let n := broadcastInDim S256x1 ![0] bcast_S256_S256x1_0 (iotaInDim S256 32 0)
  let d := constantI S_ 32 64#32
  let q := Host.divsi n (broadcastInDim S256x1 ![] bcast_S_S256x1 d)
  select (andi (cmpi .ne (signi n) (broadcastInDim S256x1 ![] bcast_S_S256x1 (signi d)))
      (cmpi .ne (Host.remsi n (broadcastInDim S256x1 ![] bcast_S_S256x1 d))
        (broadcastInDim S256x1 ![] bcast_S_S256x1 (constantI S_ 32 0#32))))
    (subi q (broadcastInDim S256x1 ![] bcast_S_S256x1 (constantI S_ 32 1#32))) q

/-- The chunk of each key of a tile's window. -/
def cols : IVec S1x768 32 :=
  let n := broadcastInDim S1x768 ![1] bcast_S768_S1x768_1 (iotaInDim S768 32 0)
  let d := constantI S_ 32 64#32
  let q := Host.divsi n (broadcastInDim S1x768 ![] bcast_S_S1x768 d)
  select (andi (cmpi .ne (signi n) (broadcastInDim S1x768 ![] bcast_S_S1x768 (signi d)))
      (cmpi .ne (Host.remsi n (broadcastInDim S1x768 ![] bcast_S_S1x768 d))
        (broadcastInDim S1x768 ![] bcast_S_S1x768 (constantI S_ 32 0#32))))
    (subi q (broadcastInDim S1x768 ![] bcast_S_S1x768 (constantI S_ 32 1#32))) q

/-- The band: a query sees its own chunk of keys and the eight before it. -/
def band : IVec S1x256x768 1 :=
  broadcastInDim S1x256x768 ![1, 2] bcast_S256x768_S1x256x768_1_2
    (andi
      (cmpi .sge (broadcastInDim S256x768 ![0, 1] bcast_S1x768_S256x768_0_1 cols)
        (broadcastInDim S256x768 ![0, 1] bcast_S256x1_S256x768_0_1 rows))
      (cmpi .sle (broadcastInDim S256x768 ![0, 1] bcast_S1x768_S256x768_0_1 cols)
        (broadcastInDim S256x768 ![0, 1] bcast_S256x1_S256x768_0_1
          (addi rows (broadcastInDim S256x1 ![] bcast_S_S256x1 (constantI S_ 32 8#32))))))

/-- The tiles of bias. -/
def tiles (rel : Vec Ideal S32x192 .f32) : Vec Ideal S16x2x256x768 .f32 :=
  shapeCast S16x2x256x768
    (select (broadcastInDim S32x256x768 ![0, 1, 2] bcast_S1x256x768_S32x256x768_0_1_2 band) (laid (along rel))
      (broadcastInDim S32x256x768 ![] bcast_S_S32x256x768 (constant S_ .f32 0xFF800000#32 : FVec Ideal S_ .f32)))
    shapeCasts_S32x256x768_S16x2x256x768

variable (m : (ℓ : Loc nD τ sig) → Buf (Elt Ideal) ℓ)

/-- The kernel finds the tiles of bias in its fourth operand. -/
theorem V_bias (c : Dev nD) : V m c main_v36 = tiles (m ((c : Thread nD τ).loc main_arg3)) := by
  simp only [V, hostOps0, hostOps0_1, hostOps0_2, hostOps0_3, hostOps0_4, hostOps0_5, hostOps0_6, hostOps0_7,
    hostOps0_8, List.flatten_cons, List.flatten_nil, List.append_nil, List.cons_append, List.nil_append]
  after_results
  simp -implicitDefEqProofs only [StableHlo.TRef.toBuf, StableHlo.TRef.ofBuf, cast_cast, cast_eq, id]
  unfold tiles band laid along positions line rows cols
  rfl

/-- The position at an index. -/
theorem positions_at (n : Fin 1024) : positions (ix2 n 0) = BitVec.ofNat 32 (min 191 (830 - n.val)) := by
  have h : line (ix1 n) = BitVec.ofNat 32 (min 191 (830 - n.val)) := by
    pointwise [line]
    exact dist_word 767 n.val (by omega) (by omega)
  pointwise [positions, h]
  simp (disch := omega) only [hlo_ix]
  exact if_neg (by omega)

/-- The bias along the line, at an index. -/
theorem along_at (rel : Vec Ideal S32x192 .f32) (p : Fin 32) (n : Fin 1024) :
    along rel (ix2 p n) = rel (ix2 p ⟨min 191 (830 - n.val), by omega⟩) := by
  refine (gather_line rel positions p n).trans (congrArg (fun z => rel (ix2 p z)) (Fin.ext ?_))
  have h := congrArg (fun w => min w.toInt.toNat 191) (positions_at n)
  refine h.trans ?_
  show min (BitVec.ofNat 32 (min 191 (830 - n.val))).toInt.toNat 191 = min 191 (830 - n.val)
  rw [toNat_word _ (by omega)]
  omega

/-- The laid out line at an index. -/
theorem laid_at (x : Vec Ideal S32x1024 .f32) (p : Fin 32) (r : Fin 256) (j : Fin 768) :
    laid x (ix3 p r j) = x (ix2 p ⟨255 + j.val - r.val, by omega⟩) := by
  pointwise [laid]
  refine congrArg (fun z => x (ix2 p z)) (Fin.ext ?_)
  simp only
  omega

/-- The chunk of a query. -/
theorem rows_at (r : Fin 256) : rows (ix2 r 0) = BitVec.ofNat 32 (r.val / 64) := by
  pointwise [rows]
  revert r
  decide +kernel

/-- The chunk of a key. -/
theorem cols_at (j : Fin 768) : cols (ix2 0 j) = BitVec.ofNat 32 (j.val / 64) := by
  pointwise [cols]
  revert j
  decide +kernel

/-- Two indices of rank two with the same coordinates. -/
theorem ix2_congr {A B : Nat} {a a' : Fin A} {b b' : Fin B} (ha : a.val = a'.val) (hb : b.val = b'.val) :
    ix2 a b = ix2 a' b' := by
  rw [Fin.ext ha, Fin.ext hb]

/-- The tiles of bias at an index. -/
theorem tiles_at (rel : Vec Ideal S32x192 .f32) (p : Fin 16) (h : Fin 2) (r : Fin 256) (j : Fin 768) :
    tiles rel (ix4 p h r j) = if r.val / 64 ≤ j.val / 64 ∧ j.val / 64 ≤ r.val / 64 + 8 then
      rel (ix2 ⟨2 * p.val + h.val, by omega⟩ ⟨min 191 (575 + r.val - j.val), by omega⟩) else (⊥ : EReal) := by
  pointwise [tiles, band, rows_at, cols_at, laid_at, along_at, Unit.neg_inf]
  rw [WordCmp.addi_ofNat]
  simp (disch := omega) only [hlo_ix]
  refine if_congr Iff.rfl (congrArg rel (ix2_congr ?_ ?_)) rfl
  · simp only
    omega
  · simp only
    omega

end Cert.Bias

end
-- ==== Proof.Ref.lean ====
/- What the reference's host lines compute at an index, up to the masked scores: its index words, its windows of keys and
   values, its bias, and the score of a query and a key of its window. -/
module

public import proofs.«01_k».proof.Proof.Words
public import proofs.«01_k».proof.Proof.Unit
public import proofs.«01_k».proof.Proof.Softmax
public import proofs.«01_k».proof.Proof.Gen.ReferenceIdeal.Read
public import Idealize.ShloMosaic.Lib.ValueIdxRank6
public import Idealize.ShloMosaic.Lib.WordCmp

@[expose] public section

noncomputable section

namespace Cert.Ref

open Cert.ReferenceIdeal Cert.ReferenceIdeal.Gen Cert.ReferenceIdeal.Read Cert.Words Cert.Softmax
open Idealize.ShloMosaic Idealize.ShloMosaic.Pointwise

set_option maxRecDepth 16384

/-- The column of the bias table for query `a` of a chunk and key `k` of its window. -/
theorem word_bias (a : Fin 64) (k : Fin 576) :
    val_main_v25 (F := Ideal) (ix3 a k 0) = BitVec.ofNat 32 (min 191 (575 + a.val - k.val)) := by
  pointwise [val_main_v25, val_main_v24, val_main_v23, val_main_v22, val_main_c_4, val_main_v21, val_main_v20, val_main_c_3,
    val_main_v19, val_main_v18, val_main_c_2, val_main_v17, val_main_call0_v4, val_main_call0_v3, val_main_call0_v2,
    val_main_call0_v1, val_main_call0_v0, val_main_c_1, val_main_c_0, val_main_v16, val_main_v15, val_main_v14, val_main_v13,
    val_main_v12, val_main_c, val_main_v11, val_main_v10, val_main_v9, val_main_v8]
  have e := dist_word (a.val + 512) k.val (by omega) (by omega)
  rw [← WordCmp.addi_ofNat] at e
  have lo : (id (constantI S_ 32 4294967233#32) ix0 : BitVec 32) = 4294967233#32 := rfl
  have hi : (id (constantI S_ 32 128#32) ix0 : BitVec 32) = 128#32 := rfl
  rw [lo, hi, e]
  simp (disch := omega) only [hlo_ix]
  rw [if_neg (by omega)]
  congr 1
  omega

/-- The column read, as a number: the clamp to the table changes nothing. -/
theorem column (a : Fin 64) (k : Fin 576) :
    min (val_main_v25 (F := Ideal) (ix3 a k 0)).toInt.toNat 191 = min 191 (575 + a.val - k.val) := by
  have h := congrArg (fun w : BitVec 32 => min w.toInt.toNat 191) (word_bias a k)
  refine h.trans ?_
  show min (BitVec.ofNat 32 (min 191 (575 + a.val - k.val))).toInt.toNat 191 = min 191 (575 + a.val - k.val)
  rw [toNat_word _ (by omega)]
  omega

/-- The position of key `k` of the window of chunk `c`. -/
theorem word_key (c : Fin 64) (k : Fin 576) :
    val_main_v38 (F := Ideal) (ix3 c k 0) = BitVec.ofNat 32 (64 * c.val + k.val) := by
  pointwise [val_main_v38, val_main_v37, val_main_v36, val_main_v35, val_main_c_7, val_main_v34, val_main_v33, val_main_c_6,
    val_main_v32, val_main_v31, val_main_v30, val_main_v29, val_main_v28, val_main_c_5, val_main_v11, val_main_v10,
    val_main_v7, val_main_v6]
  rw [WordCmp.muli_ofNat, WordCmp.addi_ofNat]
  simp (disch := omega) only [hlo_ix]
  rw [if_neg (by omega)]
  congr 1
  omega

/-- The position of value `k` of the window of chunk `c`: the keys' line again. -/
theorem word_value (c : Fin 64) (k : Fin 576) :
    val_main_v50 (F := Ideal) (ix3 c k 0) = BitVec.ofNat 32 (64 * c.val + k.val) :=
  word_key c k

/-- The chunk of key `k`, counted inside the window. -/
theorem word_chunk (k : Fin 576) : val_main_v59 (F := Ideal) (ix2 0 k) = BitVec.ofNat 32 (k.val / 64) := by
  pointwise [val_main_v59, val_main_call1_v13, val_main_call1_v12, val_main_call1_c_0, val_main_call1_v11, val_main_call1_v10,
    val_main_call1_v9, val_main_call1_c, val_main_call1_v8, val_main_call1_v7, val_main_call1_v6, val_main_call1_v5,
    val_main_call1_v4, val_main_call1_v3, val_main_call1_v2, val_main_call1_v1, val_main_call1_v0, val_main_c_11, val_main_v11,
    val_main_v10]
  revert k
  decide +kernel

/-- A key is valid when it doesn't lie in the padding of eight chunks before the sequence. -/
theorem valid_at (c : Fin 64) (k : Fin 576) :
    val_main_v64 (F := Ideal) (ix2 c k) = BitVec.ofBool (decide (8 ≤ c.val + k.val / 64)) := by
  pointwise [val_main_v64, val_main_v63, val_main_c_12, val_main_v62, val_main_v61, val_main_v60, val_main_v7, val_main_v6,
    word_chunk]
  rw [WordCmp.addi_ofNat]
  simp (disch := omega) only [hlo_ix]

/-- The queries by batch, head pair, chunk, place in the chunk, head and depth. -/
theorem q_at (x : S8x16x4096x128.Idx → EReal) (b : Fin 8) (p : Fin 16) (c a : Fin 64) (h : Fin 2) (d : Fin 64) :
    val_main_v1 (F := Ideal) x (ix6 b p c a h d)
      = x (ix4 b p ⟨64 * c.val + a.val, by omega⟩ ⟨64 * h.val + d.val, by omega⟩) := by
  unfold val_main_v1
  refine (shapeCast_apply (val_main_v0 (F := Ideal) x) _ _ (ix4 b p ⟨64 * c.val + a.val, by omega⟩ ⟨64 * h.val + d.val, by omega⟩) ?_).trans rfl
  rw [Shape.rowMajor_val_four, Shape.rowMajor_val_six]
  show ((b.val * 16 + p.val) * 4096 + (64 * c.val + a.val)) * 128 + (64 * h.val + d.val)
    = ((((b.val * 16 + p.val) * 64 + c.val) * 64 + a.val) * 2 + h.val) * 64 + d.val
  omega

/-- The keys split by head. -/
theorem k_at (x : S8x16x4608x128.Idx → EReal) (b : Fin 8) (p : Fin 16) (j : Fin 4608) (h : Fin 2) (d : Fin 64) :
    val_main_v3 (F := Ideal) x (ix5 b p j h d) = x (ix4 b p j ⟨64 * h.val + d.val, by omega⟩) := by
  unfold val_main_v3
  refine (shapeCast_apply (val_main_v2 (F := Ideal) x) _ _ (ix4 b p j ⟨64 * h.val + d.val, by omega⟩) ?_).trans rfl
  rw [Shape.rowMajor_val_four, Shape.rowMajor_val_five]
  show ((b.val * 16 + p.val) * 4608 + j.val) * 128 + (64 * h.val + d.val)
    = (((b.val * 16 + p.val) * 4608 + j.val) * 2 + h.val) * 64 + d.val
  omega

/-- The window of keys of chunk `c`. -/
theorem window_at (x : S8x16x4608x128.Idx → EReal) (b : Fin 8) (p : Fin 16) (c : Fin 64) (k : Fin 576) (h : Fin 2) (d : Fin 64) :
    val_main_v39 (F := Ideal) x (ix6 b p c k h d)
      = x (ix4 b p ⟨64 * c.val + k.val, by omega⟩ ⟨64 * h.val + d.val, by omega⟩) := by
  refine (gather_window (val_main_v3 (F := Ideal) x) (val_main_v38 (F := Ideal)) b p c k h d).trans ?_
  refine (k_at x b p _ h d).trans (congrArg (fun z => x (ix4 b p z _)) (Fin.ext ?_))
  refine (congrArg (fun w => min w.toInt.toNat 4607) (word_key c k)).trans ?_
  show min (BitVec.ofNat 32 (64 * c.val + k.val)).toInt.toNat 4607 = 64 * c.val + k.val
  rw [toNat_word _ (by omega)]
  omega

/-- The window of values of chunk `c`: the same reading. -/
theorem values_at (x : S8x16x4608x128.Idx → EReal) (b : Fin 8) (p : Fin 16) (c : Fin 64) (k : Fin 576) (h : Fin 2) (d : Fin 64) :
    val_main_v51 (F := Ideal) x (ix6 b p c k h d)
      = x (ix4 b p ⟨64 * c.val + k.val, by omega⟩ ⟨64 * h.val + d.val, by omega⟩) :=
  window_at x b p c k h d

/-- The bias of query `a` and key `k`. -/
theorem bias_at (x : S32x192.Idx → EReal) (p : Fin 16) (h : Fin 2) (a : Fin 64) (k : Fin 576) :
    val_main_v27 (F := Ideal) x (ix4 p h a k)
      = x (ix2 ⟨2 * p.val + h.val, by omega⟩ ⟨min 191 (575 + a.val - k.val), by omega⟩) := by
  unfold val_main_v27
  refine (shapeCast_apply (val_main_v26 (F := Ideal) x) _ _ (ix3 ⟨2 * p.val + h.val, by omega⟩ a k) ?_).trans ?_
  · rw [Shape.rowMajor_val_three, Shape.rowMajor_val_four]
    show ((2 * p.val + h.val) * 64 + a.val) * 576 + k.val = ((p.val * 2 + h.val) * 64 + a.val) * 576 + k.val
    omega
  · exact (gather_bias x (val_main_v25 (F := Ideal)) ⟨2 * p.val + h.val, by omega⟩ a k).trans
      (congrArg (fun z => x (ix2 ⟨2 * p.val + h.val, by omega⟩ z)) (Fin.ext (column a k)))

/-- The score of query `a` of chunk `c` and key `k` of its window; `⊥` where the key is padding. -/
def score (q : S8x16x4096x128.Idx → EReal) (k : S8x16x4608x128.Idx → EReal) (rel : S32x192.Idx → EReal)
    (b : Fin 8) (p : Fin 16) (c : Fin 64) (h : Fin 2) (a : Fin 64) (j : Fin 576) : EReal :=
  if 8 ≤ c.val + j.val / 64 then
    (∑ d : Fin 64, q (ix4 b p ⟨64 * c.val + a.val, by omega⟩ ⟨64 * h.val + d.val, by omega⟩)
      * k (ix4 b p ⟨64 * c.val + j.val, by omega⟩ ⟨64 * h.val + d.val, by omega⟩)) * ((Real.log 2 : ℝ) : EReal)
      + rel (ix2 ⟨2 * p.val + h.val, by omega⟩ ⟨min 191 (575 + a.val - j.val), by omega⟩)
  else ⊥

/-- The logarithm of the constant two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    norm_num
    rw [← EReal.coe_mul]
    norm_num
  rw [h, Ideal.log_coe, if_neg (by norm_num)]

/-- The reference's masked scores. -/
theorem score_at (q : S8x16x4096x128.Idx → EReal) (k : S8x16x4608x128.Idx → EReal) (rel : S32x192.Idx → EReal)
    (b : Fin 8) (p : Fin 16) (c : Fin 64) (h : Fin 2) (a : Fin 64) (j : Fin 576) :
    val_main_v66 (F := Ideal) q k rel (ix6 b p c h a j) = score q k rel b p c h a j := by
  pointwise [val_main_v66, val_main_call2_v2, val_main_call2_v1, val_main_call2_v0, val_main_cst_13, val_main_v65, val_main_v58,
    val_main_v57, val_main_v56, val_main_v55, val_main_v54, val_main_v53, val_main_cst, val_main_v52, q_at, window_at, bias_at,
    valid_at, log_two]
  unfold score
  exact if_congr Iff.rfl rfl Unit.neg_inf

end Cert.Ref

end
-- ==== Proof.Reference.lean ====
/- What the reference computes at an index: the softmax of the scores of a query's window of 576 keys, times the values of
   that window. -/
module

public import proofs.«01_k».proof.Proof.Ref
public import proofs.«01_k».proof.Proof.Softmax

@[expose] public section

noncomputable section

namespace Cert.Ref

open Cert.ReferenceIdeal Cert.ReferenceIdeal.Gen Cert.ReferenceIdeal.Read Cert.Words Cert.Softmax
open Idealize.ShloMosaic Idealize.ShloMosaic.Pointwise

set_option maxRecDepth 16384

variable (q : S8x16x4096x128.Idx → EReal) (k v : S8x16x4608x128.Idx → EReal) (rel : S32x192.Idx → EReal)
variable (b : Fin 8) (p : Fin 16) (c : Fin 64) (h : Fin 2) (a : Fin 64)

/-- The maximum over the last axis, at an index. -/
theorem fold_at (y : FVec Ideal S8x16x64x2x64x576 .f32) (e : FVec Ideal S_ .f32) :
    Host.reduce FloatOps.maximumf y e reducesTo_S8x16x64x2x64x576_S8x16x64x2x64_d5 h_S_ (ix5 b p c h a)
      = (Finset.univ : Finset (Fin 576)).fold max (e (Shape.Idx.first h_S_) : EReal) fun j => y (ix6 b p c h a j) := by
  have r : S8x16x64x2x64x576.Reduces [5] S8x16x64x2x64 := by decide
  rw [Host.reduce_eq_fold_single FloatOps.maximumf y e _ r]
  have w : (y ∘ r.lift (ix5 b p c h a)) = fun j : Fin 576 => y (ix6 b p c h a j) := by
    funext j
    refine congrArg y (funext fun d => Fin.ext ?_)
    fin_cases d <;> rfl
  rw [w]
  rfl

/-- The largest score of a row. -/
theorem max_at : val_main_v69 (F := Ideal) q k rel (ix5 b p c h a) = Finset.univ.fold max ⊥ (score q k rel b p c h a) := by
  have e : val_main_v67 (F := Ideal) q k rel (ix5 b p c h a) = Finset.univ.fold max ⊥ (score q k rel b p c h a) := by
    unfold val_main_v67
    rw [fold_at, show (val_main_cst_14 (F := Ideal) (Shape.Idx.first h_S_) : EReal) = ⊥ from Unit.neg_inf]
    exact congrArg (fun f : Fin 576 → EReal => Finset.univ.fold max ⊥ f) (funext fun j => score_at q k rel b p c h a j)
  rw [val_main_v69_apply, e]
  have z : (val_main_v68 (F := Ideal) (ix5 b p c h a) : EReal) = ⊥ := (val_main_v68_apply _).trans Unit.neg_inf
  rw [z]
  exact max_eq_right bot_le

/-- The exponential of a score less the row's maximum. -/
theorem exp_at (j : Fin 576) : val_main_v73 (F := Ideal) q k rel (ix6 b p c h a j)
    = Ideal.exp (score q k rel b p c h a j - Finset.univ.fold max ⊥ (score q k rel b p c h a)) := by
  have i₁ : idx_main_v71 (ix6 b p c h a j) = ix6 b p c h a 0 := by
    funext d
    fin_cases d <;> rfl
  have i₂ : idx_main_v70 (ix6 b p c h a 0) = ix5 b p c h a := by
    funext d
    fin_cases d <;> rfl
  rw [val_main_v73_apply, val_main_v72_apply, val_main_v71_apply, i₁, val_main_v70_apply, i₂, score_at, max_at]
  rfl

/-- The sum of a row's exponentials. -/
theorem sum_at : val_main_v74 (F := Ideal) q k rel (ix5 b p c h a)
    = ∑ j, Ideal.exp (score q k rel b p c h a j - Finset.univ.fold max ⊥ (score q k rel b p c h a)) := by
  refine (val_main_v74_apply q k rel _).trans ?_
  have z : (val_main_cst_16 (F := Ideal) (Shape.Idx.first h_S_) : EReal) = 0 := Ideal.ofBits_zero_f32
  rw [z, zero_add]
  refine Finset.sum_congr rfl fun j _ => Eq.trans (congrArg (val_main_v73 (F := Ideal) q k rel) (funext fun d => ?_)) (exp_at q k rel b p c h a j)
  fin_cases d <;> rfl

/-- A weight of the softmax. -/
theorem weight_at (j : Fin 576) : val_main_v77 (F := Ideal) q k rel (ix6 b p c h a j)
    = Ideal.div (Ideal.exp (score q k rel b p c h a j - Finset.univ.fold max ⊥ (score q k rel b p c h a)))
      (∑ j, Ideal.exp (score q k rel b p c h a j - Finset.univ.fold max ⊥ (score q k rel b p c h a))) := by
  have i₁ : idx_main_v76 (ix6 b p c h a j) = ix6 b p c h a 0 := by
    funext d
    fin_cases d <;> rfl
  have i₂ : idx_main_v75 (ix6 b p c h a 0) = ix5 b p c h a := by
    funext d
    fin_cases d <;> rfl
  rw [val_main_v77_apply, val_main_v76_apply, i₁, val_main_v75_apply, i₂, exp_at, sum_at]
  rfl

/-- The reference's result: the softmax of the scores times the values. -/
theorem out_at (d : Fin 64) : val_main_v79 (F := Ideal) q k v rel (ix6 b p c a h d)
    = rowExp (score q k rel b p c h a) fun j => v (ix4 b p ⟨64 * c.val + j.val, by omega⟩ ⟨64 * h.val + d.val, by omega⟩) := by
  refine (val_main_v79_apply (F := Ideal) q k v rel _).trans ?_
  refine (val_main_v78_apply q k v rel _).trans ?_
  refine Finset.sum_congr rfl fun j _ => congrArg₂ (· * ·) ?_ ?_
  · refine Eq.trans (congrArg (val_main_v51 (F := Ideal) v) (funext fun e => ?_)) (values_at v b p c j h d)
    fin_cases e <;> rfl
  · refine Eq.trans (congrArg (val_main_v77 (F := Ideal) q k rel) (funext fun e => ?_)) (weight_at q k rel b p c h a j)
    fin_cases e <;> rfl

/-- The reference's result at an index of the array of results. -/
theorem result_at (n : Fin 4096) (l : Fin 128) :
    val_main_v81 (F := Ideal) q k v rel (ix4 b p n l)
      = rowExp (score q k rel b p ⟨n.val / 64, by omega⟩ ⟨l.val / 64, by omega⟩ ⟨n.val % 64, by omega⟩)
          fun j => v (ix4 b p ⟨64 * (n.val / 64) + j.val, by omega⟩ l) := by
  show val_main_v80 (F := Ideal) q k v rel (ix4 b p n l) = _
  unfold val_main_v80
  refine (shapeCast_apply (val_main_v79 (F := Ideal) q k v rel) _ _
    (ix6 b p ⟨n.val / 64, by omega⟩ ⟨n.val % 64, by omega⟩ ⟨l.val / 64, by omega⟩ ⟨l.val % 64, by omega⟩) ?_).trans ?_
  · rw [Shape.rowMajor_val_four, Shape.rowMajor_val_six]
    show ((((b.val * 16 + p.val) * 64 + n.val / 64) * 64 + n.val % 64) * 2 + l.val / 64) * 64 + l.val % 64
      = ((b.val * 16 + p.val) * 4096 + n.val) * 128 + l.val
    omega
  · refine (out_at q k v rel b p _ _ _ _).trans (congrArg (rowExp _) (funext fun j => congrArg (fun z => v (ix4 b p _ z)) (Fin.ext ?_)))
    simp only
    omega

end Cert.Ref

end
-- ==== Proof.Equation.lean ====
/- The equation of the attention claim: on finite queries, keys and biases the kernel's row over a window of 768 keys, 192 of
   them masked, is the reference's row over its own 576 keys. -/
module

public import proofs.«01_k».proof.Proof.Tile
public import proofs.«01_k».proof.Proof.Bias
public import proofs.«01_k».proof.Proof.Reference
public import proofs.«01_k».proof.Proof.Gen.Pre_finite
public import Idealize.ShloMosaic.Lib.ReduceAll

@[expose] public section

noncomputable section

namespace Cert.Equation

open Cert.ReferenceIdeal Cert.Softmax Idealize.ShloMosaic Idealize.ShloMosaic.Pointwise

set_option maxRecDepth 16384

/-- A number whose absolute value is less than infinity is neither infinity. -/
theorem real_of (x : EReal) (h : Ideal.cmp .olt (max x (-x)) (Ideal.ofBits .f32 0x7F800000#32) = 1#1) : x ≠ ⊤ ∧ x ≠ ⊥ := by
  have t : Ideal.ofBits .f32 0x7F800000#32 = ⊤ := by simp [Ideal.ofBits, Ideal.ieee]
  rw [t] at h
  refine ⟨fun e => ?_, fun e => ?_⟩ <;> subst e <;> simp [Ideal.cmp] at h

/-- The precondition, element by element. -/
theorem finite_of (q : S8x16x4096x128.Idx → EReal) (k v : S8x16x4608x128.Idx → EReal) (rel : S32x192.Idx → EReal)
    (h : Cert.Pre_finite.fn (F := Ideal) q k v rel = fun _ => 1#1) :
    (∀ i, q i ≠ ⊤ ∧ q i ≠ ⊥) ∧ (∀ i, k i ≠ ⊤ ∧ k i ≠ ⊥) ∧ ∀ i, rel i ≠ ⊤ ∧ rel i ≠ ⊥ := by
  have h₀ := congrFun h ix0
  dsimp only [Cert.Pre_finite.fn] at h₀
  obtain ⟨h₁, h₃⟩ := IntOp.andi_eq_one.mp h₀
  obtain ⟨h₁, h₂⟩ := IntOp.andi_eq_one.mp h₁
  have s : Subsingleton Cert.Pre_finite.S_.Idx := ⟨fun a b => funext fun d => d.elim0⟩
  exact ⟨fun i => real_of _ (Host.reduce_andi_all _ _ _ _ _ h₁ i), fun i => real_of _ (Host.reduce_andi_all _ _ _ _ _ h₂ i),
    fun i => real_of _ (Host.reduce_andi_all _ _ _ _ _ h₃ i)⟩

/-- A finite sum of products of reals is a real. -/
theorem dot_real {n : Nat} (x y : Fin n → EReal) (hx : ∀ d, x d ≠ ⊤ ∧ x d ≠ ⊥) (hy : ∀ d, y d ≠ ⊤ ∧ y d ≠ ⊥) :
    ∃ r : ℝ, ∑ d, x d * y d = (r : EReal) := by
  refine ⟨∑ d, (x d).toReal * (y d).toReal, ?_⟩
  rw [← sum_real]
  refine Finset.sum_congr rfl fun d _ => ?_
  rw [EReal.coe_mul, EReal.coe_toReal (hx d).1 (hx d).2, EReal.coe_toReal (hy d).1 (hy d).2]

variable (q : S8x16x4096x128.Idx → EReal) (k v : S8x16x4608x128.Idx → EReal) (rel : S32x192.Idx → EReal)

/-- The place of key `j` of a query's own window in the window of the query's tile. -/
def place (n : Nat) (j : Fin 576) : Fin 768 :=
  ⟨j.val + 64 * (n % 256 / 64), by omega⟩

theorem place_injective (n : Nat) : Function.Injective (place n) := by
  intro i j h
  have := congrArg Fin.val h
  simp only [place] at this
  exact Fin.ext (by omega)

/-- The two logarithms undo each other on a real score. -/
theorem scale (r b : EReal) (hr : ∃ x : ℝ, r = (x : EReal)) (hb : ∃ x : ℝ, b = (x : EReal)) :
    r + b * (((Real.log 2)⁻¹ : ℝ) : EReal) = (((Real.log 2)⁻¹ : ℝ) : EReal) * (r * ((Real.log 2 : ℝ) : EReal) + b) := by
  obtain ⟨x, rfl⟩ := hr
  obtain ⟨y, rfl⟩ := hb
  have h : Real.log 2 ≠ 0 := (Real.log_pos (by norm_num)).ne'
  norm_cast
  field_simp

variable (fq : ∀ i, q i ≠ ⊤ ∧ q i ≠ ⊥) (fk : ∀ i, k i ≠ ⊤ ∧ k i ≠ ⊥) (fr : ∀ i, rel i ≠ ⊤ ∧ rel i ≠ ⊥)

/-- Of four-axis indices only the places count. -/
theorem ix4_congr {A B C D : Nat} (a : Fin A) (b : Fin B) {c c' : Fin C} {d d' : Fin D} (hc : c.val = c'.val) (hd : d.val = d'.val) :
    ix4 a b c d = ix4 a b c' d' := by
  rw [Fin.ext hc, Fin.ext hd]

include fq fk fr in
/-- The kernel's score at the place of a key is the reference's score in powers of two. -/
theorem score_place (b : Fin 8) (p : Fin 16) (n : Fin 4096) (l : Fin 128) (j : Fin 576) :
    Point.score q k (Bias.tiles rel) b p n l (place n.val j)
      = (((Real.log 2)⁻¹ : ℝ) : EReal)
        * Ref.score q k rel b p ⟨n.val / 64, by omega⟩ ⟨l.val / 64, by omega⟩ ⟨n.val % 64, by omega⟩ j := by
  have hJ : (place n.val j).val = j.val + 64 * (n.val % 256 / 64) := rfl
  generalize place n.val j = J at hJ ⊢
  unfold Point.score Ref.score
  rw [Bias.tiles_at]
  by_cases h : 8 ≤ n.val / 64 + j.val / 64
  · rw [if_pos (by omega), if_pos (by simp only; omega), if_pos h]
    have e : ∀ d : Fin 64, q (ix4 b p ⟨64 * (n.val / 64) + n.val % 64, by omega⟩ ⟨64 * (l.val / 64) + d.val, by omega⟩)
          * k (ix4 b p ⟨64 * (n.val / 64) + j.val, by omega⟩ ⟨64 * (l.val / 64) + d.val, by omega⟩)
        = q (ix4 b p n ⟨64 * (l.val / 64) + d.val, by omega⟩)
          * k (ix4 b p ⟨256 * (n.val / 256) + J.val, by omega⟩ ⟨64 * (l.val / 64) + d.val, by omega⟩) :=
      fun d => congrArg₂ (· * ·) (congrArg q (ix4_congr b p (by simp only; omega) rfl))
        (congrArg k (ix4_congr b p (by simp only; omega) rfl))
    rw [Finset.sum_congr rfl fun d _ => e d]
    have w : (ix2 (⟨2 * p.val + l.val / 64, by omega⟩ : Fin 32)
        (⟨min 191 (575 + n.val % 256 - J.val), by omega⟩ : Fin 192))
        = ix2 ⟨2 * p.val + l.val / 64, by omega⟩ ⟨min 191 (575 + n.val % 64 - j.val), by omega⟩ :=
      Bias.ix2_congr rfl (by simp only; omega)
    rw [w]
    exact scale _ _ (dot_real _ _ (fun d => fq _) fun d => fk _) ⟨_, (EReal.coe_toReal (fr _).1 (fr _).2).symm⟩
  · rw [if_neg (by omega : ¬ 512 ≤ 256 * (n.val / 256) + J.val), if_neg h]
    exact (EReal.coe_mul_bot_of_pos (inv_pos.mpr (Real.log_pos (by norm_num)))).symm

/-- Outside a query's own window every score of its tile is masked. -/
theorem score_off (b : Fin 8) (p : Fin 16) (n : Fin 4096) (l : Fin 128) (j : Fin 768) (hj : j ∉ Set.range (place n.val)) :
    Point.score q k (Bias.tiles rel) b p n l j = ⊥ := by
  have o : ¬ (n.val % 256 / 64 ≤ j.val / 64 ∧ j.val / 64 ≤ n.val % 256 / 64 + 8) := fun h =>
    hj ⟨⟨j.val - 64 * (n.val % 256 / 64), by omega⟩, Fin.ext (by simp only [place]; omega)⟩
  unfold Point.score
  rw [Bias.tiles_at]
  simp only
  rw [if_neg o, EReal.bot_mul_coe_of_pos (inv_pos.mpr (Real.log_pos (by norm_num))), EReal.add_bot, ite_self]

include fq fk fr in
/-- A valid score of the reference is real, a masked one is `⊥`. -/
theorem score_real (b : Fin 8) (p : Fin 16) (c : Fin 64) (h : Fin 2) (a : Fin 64) (j : Fin 576) :
    Ref.score q k rel b p c h a j ≠ ⊤ ∧ (8 ≤ c.val + j.val / 64 → Ref.score q k rel b p c h a j ≠ ⊥) := by
  unfold Ref.score
  split
  · obtain ⟨x, hx⟩ := dot_real (fun d : Fin 64 => q (ix4 b p ⟨64 * c.val + a.val, by omega⟩ ⟨64 * h.val + d.val, by omega⟩))
      (fun d => k (ix4 b p ⟨64 * c.val + j.val, by omega⟩ ⟨64 * h.val + d.val, by omega⟩)) (fun d => fq _) fun d => fk _
    rw [hx, ← EReal.coe_toReal (fr (ix2 ⟨2 * p.val + h.val, by omega⟩ ⟨min 191 (575 + a.val - j.val), by omega⟩)).1 (fr _).2,
      ← EReal.coe_mul, ← EReal.coe_add]
    exact ⟨EReal.coe_ne_top _, fun _ => EReal.coe_ne_bot _⟩
  · exact ⟨bot_ne_top, fun g => absurd g (by assumption)⟩

include fq fk fr in
/-- The two rows are equal. -/
theorem row_eq (b : Fin 8) (p : Fin 16) (n : Fin 4096) (l : Fin 128) :
    Point.attn q k v (Bias.tiles rel) b p n l
      = rowExp (Ref.score q k rel b p ⟨n.val / 64, by omega⟩ ⟨l.val / 64, by omega⟩ ⟨n.val % 64, by omega⟩)
          fun j => v (ix4 b p ⟨64 * (n.val / 64) + j.val, by omega⟩ l) :=
  rowTwo_eq_rowExp (place n.val) (place_injective n.val) _ _ _ _ (score_place q k rel fq fk fr b p n l)
    (score_off q k rel b p n l) (fun j => congrArg v (ix4_congr b p (by simp only [place]; omega) rfl))
    (fun j => (score_real q k rel fq fk fr b p _ _ _ j).1) ⟨575, by omega⟩
    ((score_real q k rel fq fk fr b p _ _ _ ⟨575, by omega⟩).2 (by simp only; omega))

end Cert.Equation

end
-- ==== Proof.Body.lean ====
/- One grid point of the experts' kernel, run on any staging buffers, any tables and any contents: the four ways the two
   conditions can fall. The first column of a used row block rounds the rows into the scratch and starts the sum at zero; the
   other columns of a used block add to it; the first column of an unused block stores zeros; the rest do nothing. -/
module

public import proofs.«01_k».proof.Proof.Gen.ExpertsIdeal.Launch
public import proofs.«01_k».proof.Proof.Gen.ExpertsIdeal.Skeleton
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.Routed

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The experts of the blocks, and the number of used blocks, where the kernel reads them. -/
abbrev tab0 : Memref sig .tc .smem S136 .i32 := Memref.whole main_arg0
abbrev tab1 : Memref sig .tc .smem S1 .i32 := Memref.whole main_arg1
/-- The scratch: one block of rows, rounded. -/
abbrev scr : Memref sig .tc .vmem S512x2048 .bf16 := Memref.whole cc0_scratch0

/-- The number of used blocks as the body reads it off its table. -/
abbrev word (T1 : S1.Idx → Elt F .i32) : Elt F .i32 :=
  View.readAt (Elt F) tab1.view (Rect.unit (s := S1) ![0] S1.size inb_S1_S1_0).toLoadRect T1 (Shape.Idx.first (numel1_S1.symm ▸ Nat.one_pos))

/-- The scratch holding `X`. -/
def scratch (c : Dev nD) (X : S512x2048.Idx → Elt F .bf16) : sProp 𝕄 :=
  iprop(∃ a : Buf (Elt F) ((c : Thread nD τ).loc cc0_scratch0), ⌜scr.view.read (Elt F) a = X⌝ ∗ (scr.view.loc (c : Thread nD τ) ↦{fullShare} a))

/-- The half of the two tables the body holds. -/
def tables (c : Dev nD) (T0 : S136.Idx → Elt F .i32) (T1 : S1.Idx → Elt F .i32) : sProp 𝕄 :=
  iprop((tab0.view.loc (c : Thread nD τ) ↦{fullShare.right} T0) ∗ (tab1.view.loc (c : Thread nD τ) ↦{fullShare.right} T1))

section

variable (c : Dev nD) (i : grid0.Coords)
  (a4 : Memref sig .tc .vmem S512x2048 .f32) (h4 : a4.IsWhole) (a5 : Memref sig .tc .vmem S1x1x2048x1024 .bf16) (h5 : a5.IsWhole)
  (a6 : Memref sig .tc .vmem S1x1x2048x1024 .bf16) (h6 : a6.IsWhole) (a7 : Memref sig .tc .vmem S1x1x1024x2048 .bf16) (h7 : a7.IsWhole)
  (a8 : Memref sig .tc .vmem S512x2048 .f32) (h8 : a8.IsWhole)
  (T0 : S136.Idx → Elt F .i32) (T1 : S1.Idx → Elt F .i32)
  (x0 : S512x2048.Idx → Elt F .f32) (x1 x2 : S1x1x2048x1024.Idx → Elt F .bf16) (x3 : S1x1x1024x2048.Idx → Elt F .bf16)

/-- What the body only reads: its four input blocks. -/
def inputs : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3))

theorem inputs_of_owns :
    iprop(owns (c : Thread nD τ) a4 fullShare x0 ∗ owns (c : Thread nD τ) a5 fullShare x1
      ∗ owns (c : Thread nD τ) a6 fullShare x2 ∗ owns (c : Thread nD τ) a7 fullShare x3) ⊢ inputs c a4 a5 a6 a7 x0 x1 x2 x3 := by
  unfold inputs
  iintro ⟨H0, H1, H2, H3⟩
  isplitl [H0]; · iapply rep_of_owns; iexact H0
  isplitl [H1]; · iapply rep_of_owns; iexact H1
  isplitl [H2]; · iapply rep_of_owns; iexact H2
  iapply rep_of_owns; iexact H3

theorem owns_of_inputs : inputs c a4 a5 a6 a7 x0 x1 x2 x3 ⊢
    iprop(owns (c : Thread nD τ) a4 fullShare x0 ∗ owns (c : Thread nD τ) a5 fullShare x1
      ∗ owns (c : Thread nD τ) a6 fullShare x2 ∗ owns (c : Thread nD τ) a7 fullShare x3) := by
  unfold inputs
  iintro ⟨H0, H1, H2, H3⟩
  isplitl [H0]; · iapply owns_of_rep; iexact H0
  isplitl [H1]; · iapply owns_of_rep; iexact H1
  isplitl [H2]; · iapply owns_of_rep; iexact H2
  iapply owns_of_rep; iexact H3

/-- The kernel at one point of the grid. -/
abbrev kern : Prog (TpuEff nD τ sig (Elt F) Λ₀ .tc) PUnit :=
  cc0_moe_experts i tab0 (Memref.isWhole_whole _) tab1 (Memref.isWhole_whole _) a4 h4 a5 h5 a6 h6 a7 h7 a8 h8 scr (Memref.isWhole_whole _)

set_option maxHeartbeats 8000000 in
/-- The first column of a used block: the scratch and the sum are started. -/
theorem run_start (p1 : k0_cond1 i = 1#1) (p2 : k0_cond2 i (word T1) = 1#1) (K : PUnit → sProp 𝕄) :
    iprop(inputs c a4 a5 a6 a7 x0 x1 x2 x3 ∗ tables c T0 T1 ∗ (∃ d, owns (c : Thread nD τ) a8 fullShare d) ∗ (∃ X, scratch c X)
      ∗ (iprop(inputs c a4 a5 a6 a7 x0 x1 x2 x3 ∗ tables c T0 T1
          ∗ owns (c : Thread nD τ) a8 fullShare (k0_pay3 (k0_pay2 x0) x1 x2 k0_pay1 x3) ∗ scratch c (k0_pay2 x0)) -∗ K ⟨⟩))
      ⊢ wp frame (wpE (defs₀ (F := F)) Variants.none c none) Set.univ (kern i a4 h4 a5 h5 a6 h6 a7 h7 a8 h8) K := by
  unfold inputs tables scratch
  unfold owns
  unfold kern; rw [cc0_moe_experts_eq_skeleton]; unfold cc0_moe_experts_skel
  iintro ⟨⟨H0, H1, H2, H3⟩, ⟨HT0, HT1⟩, ⟨%d4, %f4, -, HO4⟩, ⟨%X, %xa0, -, HS0⟩, Hk⟩
  have hS0 : scr.IsWhole := Memref.isWhole_whole _
  have hT0 : tab0.IsWhole := Memref.isWhole_whole _
  have hT1 : tab1.IsWhole := Memref.isWhole_whole _
  sl_exec! (disch := first | (guard_target = k0_cond1 _ = _; exact p1) | (guard_target = k0_cond2 _ _ = _; exact p2) | (guard_target = Scalar.cmpi = _; exact p1))
  sl_step
  iapply Hk
  isplitl [H0 H1 H2 H3]
  · isplitl [H0]; · iexact H0
    isplitl [H1]; · iexact H1
    isplitl [H2]; · iexact H2
    iexact H3
  isplitl [HT0 HT1]
  · isplitl [HT0]; · iexact HT0
    iexact HT1
  isplitl [HO4]
  · iexists _; isplitr; swap
    · iexact HO4
    · ipureintro
      refine (View.read_writes_full _ _ _ _ _).trans ?_
      refine congr (congr (congr (congrArg₂ k0_pay3 ?_ ?_) ?_) ?_) ?_
      · exact (View.readCov_full _ _ _ _ _).trans (congrArg k0_pay2 (View.readAt_rep_full _ _ _))
      · exact View.readAt_rep_full _ _ _
      · exact View.readAt_rep_full _ _ _
      · exact View.readCov_full _ _ _ _ _
      · exact View.readAt_rep_full _ _ _
  iexists _; isplitr; swap
  · iexact HS0
  · ipureintro
    exact (View.read_writes_full _ _ _ _ _).trans (congrArg k0_pay2 (View.readAt_rep_full _ _ _))

set_option maxHeartbeats 8000000 in
/-- A later column of a used block: a term is added to the sum. -/
theorem run_add (p1 : ¬ k0_cond1 i = 1#1) (p2 : k0_cond2 i (word T1) = 1#1) (X : S512x2048.Idx → Elt F .bf16) (y : S512x2048.Idx → Elt F .f32)
    (K : PUnit → sProp 𝕄) :
    iprop(inputs c a4 a5 a6 a7 x0 x1 x2 x3 ∗ tables c T0 T1 ∗ (a8.view.loc (c : Thread nD τ) ↦[a8.view.set]{fullShare} a8.view.rep y) ∗ scratch c X
      ∗ (iprop(inputs c a4 a5 a6 a7 x0 x1 x2 x3 ∗ tables c T0 T1
          ∗ owns (c : Thread nD τ) a8 fullShare (k0_pay3 X x1 x2 y x3) ∗ scratch c X) -∗ K ⟨⟩))
      ⊢ wp frame (wpE (defs₀ (F := F)) Variants.none c none) Set.univ (kern i a4 h4 a5 h5 a6 h6 a7 h7 a8 h8) K := by
  unfold inputs tables scratch
  unfold owns
  unfold kern; rw [cc0_moe_experts_eq_skeleton]; unfold cc0_moe_experts_skel
  iintro ⟨⟨H0, H1, H2, H3⟩, ⟨HT0, HT1⟩, HO4, ⟨%xa0, %hx, HS0⟩, Hk⟩
  have hS0 : scr.IsWhole := Memref.isWhole_whole _
  have hT0 : tab0.IsWhole := Memref.isWhole_whole _
  have hT1 : tab1.IsWhole := Memref.isWhole_whole _
  sl_exec! (disch := first | (guard_target = k0_cond1 _ = _; exact p1) | (guard_target = k0_cond2 _ _ = _; exact p2) | (guard_target = Scalar.cmpi = _; exact p1))
  sl_step
  iapply Hk
  isplitl [H0 H1 H2 H3]
  · isplitl [H0]; · iexact H0
    isplitl [H1]; · iexact H1
    isplitl [H2]; · iexact H2
    iexact H3
  isplitl [HT0 HT1]
  · isplitl [HT0]; · iexact HT0
    iexact HT1
  isplitl [HO4]
  · iexists _; isplitr; swap
    · iexact HO4
    · ipureintro
      refine (View.read_writes_full _ _ _ _ _).trans ?_
      refine congr (congr (congr (congrArg₂ k0_pay3 ?_ ?_) ?_) ?_) ?_
      · exact (View.readAt_full _ _ _).trans hx
      · exact View.readAt_rep_full _ _ _
      · exact View.readAt_rep_full _ _ _
      · exact View.readAt_rep_full _ _ _
      · exact View.readAt_rep_full _ _ _
  iexists _; isplitr; swap
  · iexact HS0
  · ipureintro
    exact hx

set_option maxHeartbeats 8000000 in
/-- The first column of an unused block: zeros are stored. -/
theorem run_zero (p1 : k0_cond1 i = 1#1) (p2 : ¬ k0_cond2 i (word T1) = 1#1) (K : PUnit → sProp 𝕄) :
    iprop(inputs c a4 a5 a6 a7 x0 x1 x2 x3 ∗ tables c T0 T1 ∗ (∃ d, owns (c : Thread nD τ) a8 fullShare d)
      ∗ (iprop(inputs c a4 a5 a6 a7 x0 x1 x2 x3 ∗ tables c T0 T1 ∗ owns (c : Thread nD τ) a8 fullShare (k0_pay1 (F := F))) -∗ K ⟨⟩))
      ⊢ wp frame (wpE (defs₀ (F := F)) Variants.none c none) Set.univ (kern i a4 h4 a5 h5 a6 h6 a7 h7 a8 h8) K := by
  unfold inputs tables
  unfold owns
  unfold kern; rw [cc0_moe_experts_eq_skeleton]; unfold cc0_moe_experts_skel
  iintro ⟨⟨H0, H1, H2, H3⟩, ⟨HT0, HT1⟩, ⟨%d4, %f4, -, HO4⟩, Hk⟩
  have hT0 : tab0.IsWhole := Memref.isWhole_whole _
  have hT1 : tab1.IsWhole := Memref.isWhole_whole _
  sl_exec! (disch := first | (guard_target = k0_cond1 _ = _; exact p1) | (guard_target = k0_cond2 _ _ = _; exact p2))
  sl_step
  iapply Hk
  isplitl [H0 H1 H2 H3]
  · isplitl [H0]; · iexact H0
    isplitl [H1]; · iexact H1
    isplitl [H2]; · iexact H2
    iexact H3
  isplitl [HT0 HT1]
  · isplitl [HT0]; · iexact HT0
    iexact HT1
  iexists _; isplitr; swap
  · iexact HO4
  · ipureintro
    exact View.read_writes_full _ _ _ _ _

set_option maxHeartbeats 8000000 in
/-- A later column of an unused block: nothing is touched. -/
theorem run_skip (p1 : ¬ k0_cond1 i = 1#1) (p2 : ¬ k0_cond2 i (word T1) = 1#1) (K : PUnit → sProp 𝕄) :
    iprop(tables c T0 T1 ∗ (tables c T0 T1 -∗ K ⟨⟩))
      ⊢ wp frame (wpE (defs₀ (F := F)) Variants.none c none) Set.univ (kern i a4 h4 a5 h5 a6 h6 a7 h7 a8 h8) K := by
  unfold tables
  unfold kern; rw [cc0_moe_experts_eq_skeleton]; unfold cc0_moe_experts_skel
  iintro ⟨⟨HT0, HT1⟩, Hk⟩
  have hT0 : tab0.IsWhole := Memref.isWhole_whole _
  have hT1 : tab1.IsWhole := Memref.isWhole_whole _
  sl_exec! (disch := first | (guard_target = k0_cond1 _ = _; exact p1) | (guard_target = k0_cond2 _ _ = _; exact p2))
  sl_step
  iapply Hk
  isplitl [HT0]; · iexact HT0
  iexact HT1

end

end Cert.Routed

end
-- ==== Proof.Points.lean ====
/- The schedule of the experts' call: which row block and column a point is of, which points start a sum, and when the result's
   block is written back; the same for every content of the tables. -/
module

public import proofs.«01_k».proof.Proof.Body
public import Idealize.ShloMosaic.Lib.Pipeline.Kit

@[expose] public section

set_option maxRecDepth 16384

noncomputable section

namespace Cert.Routed

open Cert.ExpertsIdeal Cert.ExpertsIdeal.Gen
open Idealize.ShloMosaic
open Idealize.ShloMosaic.TcCoe
open Idealize.ShloMosaic.Pipeline (Dat Cfg Window)

variable {F : FTy → Type} [FloatOps F]

/-- A point's row block and column. -/
theorem coord_row (t : Fin grid0.N) : (grid0.coords t 0).val = t.val / 7 := by
  rw [Pipeline.Grid.coords_val t 0 (S := 7) (B := 136) (by decide) rfl]
  have : t.val < 952 := lt_of_lt_of_eq t.isLt N_0
  omega
theorem coord_col (t : Fin grid0.N) : (grid0.coords t 1).val = t.val % 7 := by
  rw [Pipeline.Grid.coords_val t 1 (S := 1) (B := 7) (by decide) rfl, Nat.div_one]

/-- The first condition holds in column zero only. -/
theorem cond1_iff (t : Fin grid0.N) : k0_cond1 (grid0.coords t) = 1#1 ↔ t.val % 7 = 0 := by
  have key : ∀ j : Fin 7, Scalar.cmpi .ne (Scalar.extui (Scalar.cmpi .eq (BitVec.ofNat 32 j.val) 0#32)) 0#32 = 1#1 ↔ j.val = 0 := by decide
  rw [← coord_col t]
  exact key (grid0.coords t 1)

/-- The two tables' contents. -/
def exps (pf : pre0.Contents (Elt F)) : S136.Idx → Elt F .i32 := pf 0
def used (pf : pre0.Contents (Elt F)) : S1.Idx → Elt F .i32 := pf 1

/-- A point is of a used row block. -/
abbrev live (pf : pre0.Contents (Elt F)) (i : grid0.Coords) : Prop := k0_cond2 i (word (used pf)) = 1#1

/-- The word the schedule names is the word the body reads. -/
theorem word_eq (pf : pre0.Contents (Elt F)) : pf.atD 1 ![0] = word (used pf) := by
  rfl

variable (a : (pcfg0 (F := F)).Adm)

theorem idle_eq (t : Fin (cfg0 a).N) : (cfg0 a).idle (4 : Fin 5) ((cfg0 a).grid.coords t)
    = (!(k0_cond1 (grid0.coords t) == 1#1) && !(k0_cond2 (grid0.coords t) (word (used a.1)) == 1#1)) := by
  rw [← word_eq a.1]

/-- The block of the result at a point. -/
theorem row_index (t : Fin (cfg0 a).N) : ((cfg0 a).win (4 : Fin 5)).index t = ![t.val / 7, 0] := by
  have hb : t.val < 952 := lt_of_lt_of_eq t.isLt N_0
  refine Eq.trans (b := ![(BitVec.ofNat 32 (grid0.coords t 0).val).toNat, 0]) rfl ?_
  rw [coord_row, BitVec.toNat_ofNat, Nat.mod_eq_of_lt (by omega)]

/-- The result's block is written back after the last column. -/
theorem flush_eq (t : Fin (cfg0 a).N) : ((cfg0 a).win (4 : Fin 5)).flush t = decide (t.val % 7 = 6) := by
  have hb : t.val < 952 := lt_of_lt_of_eq t.isLt N_0
  have hN : (cfg0 a).grid.N = 952 := N_0
  rw [Pipeline.Window.flush_eq_flushF]
  unfold Pipeline.Window.flushF
  rw [show ((cfg0 a).win (4 : Fin 5)).isOut = true from rfl, Bool.true_and]
  rw [← Bool.decide_or, decide_eq_decide]
  constructor
  · rintro (h | ⟨h, k, hk⟩)
    · omega
    · rw [row_index, row_index] at hk
      by_contra hc
      exact hk (congrArg (fun n => ![n, 0] k) (show (t.val + 1) / 7 = t.val / 7 by omega))
  · intro h
    by_cases hl : t.val + 1 = 952
    · exact .inl (hl.trans hN.symm)
    · refine .inr ⟨by omega, (0 : Fin 2), ?_⟩
      rw [row_index, row_index]
      show (t.val + 1) / 7 ≠ t.val / 7
      omega

/-- What the result's buffer holds before a point of column zero is nobody's. -/
theorem fresh_eq (t : Fin (cfg0 a).N) : (cfg0 a).fresh (4 : Fin 5) t.val = decide (t.val % 7 = 0) := by
  refine Pipeline.Cfg.fresh_tab (cfg0 a) (4 : Fin 5) (fun n => decide (n % 7 = 0)) rfl (fun t => ?_) t.val t.isLt.le
  rw [flush_eq, idle_eq]
  have h1 := cond1_iff t
  by_cases h : t.val % 7 = 0
  · rw [h1.mpr h]
    have h6 : ¬ t.val % 7 = 6 := by omega
    have h7 : ¬ (t.val + 1) % 7 = 0 := by omega
    simp [h6, h7]
  · by_cases h6 : t.val % 7 = 6
    · have h7 : (t.val + 1) % 7 = 0 := by omega
      simp [h6, h7]
    · have h7 : ¬ (t.val + 1) % 7 = 0 := by omega
      simp [h, h6, h7]

end Cert.Routed

end
-- ==== Proof.Held.lean ====
/- The experts' call at any admissible tables: what its buffers hold point by point, and that the body keeps to it. -/
module

public import proofs.«01_k».proof.Proof.Points

@[expose] public section

set_option maxRecDepth 16384
set_option Elab.async false

noncomputable section

namespace Cert.Routed

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- A window's current staging buffer at a point, as the pipeline passes it to the body. -/
abbrev st0 (t : Fin (cfg0 a).N) : Memref sig .tc .vmem S512x2048 .f32 := spec0_0.stage ((cfg0 a).slots t (0 : Fin 5))
abbrev st1 (t : Fin (cfg0 a).N) : Memref sig .tc .vmem S1x1x2048x1024 .bf16 := spec0_1.stage ((cfg0 a).slots t (1 : Fin 5))
abbrev st2 (t : Fin (cfg0 a).N) : Memref sig .tc .vmem S1x1x2048x1024 .bf16 := spec0_2.stage ((cfg0 a).slots t (2 : Fin 5))
abbrev st3 (t : Fin (cfg0 a).N) : Memref sig .tc .vmem S1x1x1024x2048 .bf16 := spec0_3.stage ((cfg0 a).slots t (3 : Fin 5))
abbrev st4 (t : Fin (cfg0 a).N) : Memref sig .tc .vmem S512x2048 .f32 := spec0_4.stage ((cfg0 a).slots t (4 : Fin 5))

/-- A window's block at a point, read off its array at launch. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) ((s₀ m ρ).mem (((cfg0 a).win w).arr.view.loc (c : Thread nD τ)))

/-- The rounded rows fetched at point `k`. -/
def rowsAt (c : Dev nD) (k : ℕ) : S512x2048.Idx → Elt F .bf16 :=
  if h : k < (cfg0 a).N then k0_pay2 (iblk a m ρ c (0 : Fin 5) ⟨k, h⟩) else k0_pay2 k0_pay1

/-- The rounded rows of the row block position `n` is in: the rows fetched at the block's first point. -/
def rows (c : Dev nD) (n : ℕ) : S512x2048.Idx → Elt F .bf16 := rowsAt a m ρ c (n / 7 * 7)

/-- One column's term added to `y`. -/
def addTerm (c : Dev nD) (t : Fin (cfg0 a).N) (y : S512x2048.Idx → Elt F .f32) : S512x2048.Idx → Elt F .f32 :=
  if live a.1 (grid0.coords t) then
    k0_pay3 (rows a m ρ c t.val) (iblk a m ρ c (1 : Fin 5) t) (iblk a m ρ c (2 : Fin 5) t) y (iblk a m ρ c (3 : Fin 5) t)
  else y

/-- What the result's buffer holds after each point: the sum of the block's terms so far, from zero. -/
def acc (c : Dev nD) : (n : ℕ) → n < (cfg0 a).N → S512x2048.Idx → Elt F .f32
  | 0, h => addTerm a m ρ c ⟨0, h⟩ k0_pay1
  | n + 1, h => addTerm a m ρ c ⟨n + 1, h⟩ (if (n + 1) % 7 = 0 then k0_pay1 else acc c n (Nat.lt_of_succ_lt h))

theorem acc_start (c : Dev nD) (t : Fin (cfg0 a).N) (h : t.val % 7 = 0) : acc a m ρ c t.val t.isLt = addTerm a m ρ c t k0_pay1 := by
  obtain ⟨n, hn⟩ := t
  cases n with
  | zero => rfl
  | succ n => rw [acc, if_pos h]

theorem acc_step (c : Dev nD) (t : Fin (cfg0 a).N) (h : ¬ t.val % 7 = 0) :
    acc a m ρ c t.val t.isLt = addTerm a m ρ c t (acc a m ρ c (t.val - 1) (by omega)) := by
  obtain ⟨n, hn⟩ := t
  cases n with
  | zero => exact absurd rfl h
  | succ n => rw [acc, if_neg h]; rfl

/-- What holds before each point: the scratch, and the body's halves of the tables. -/
def Phi (c : Dev nD) (n : ℕ) : sProp 𝕄 :=
  iprop((∃ X, ⌜∀ h : n < (cfg0 a).N, n % 7 ≠ 0 → live a.1 (grid0.coords ⟨n, h⟩) → X = rows a m ρ c n⌝ ∗ scratch c X)
    ∗ tables c (exps a.1) (used a.1))

/-- The call's proof data. -/
def dats (_ : Fin 1) (c : Dev nD) : Dat τ (Elt F) Unit ℕ (UR sig nD τ) ℕ (cfg0 a) c where
  A w := (s₀ m ρ).mem (((cfg0 a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => acc a m ρ c t.val t.isLt
  Φ t := Phi a m ρ c t.val
  q _ := fullShare
  owed _ := 0

theorem after_0 (c : Dev nD) (t : Fin (cfg0 a).N) : (dats a m ρ 0 c).after (0 : Fin 5) t = iblk a m ρ c (0 : Fin 5) t := rfl
theorem after_1 (c : Dev nD) (t : Fin (cfg0 a).N) : (dats a m ρ 0 c).after (1 : Fin 5) t = iblk a m ρ c (1 : Fin 5) t := rfl
theorem after_2 (c : Dev nD) (t : Fin (cfg0 a).N) : (dats a m ρ 0 c).after (2 : Fin 5) t = iblk a m ρ c (2 : Fin 5) t := rfl
theorem after_3 (c : Dev nD) (t : Fin (cfg0 a).N) : (dats a m ρ 0 c).after (3 : Fin 5) t = iblk a m ρ c (3 : Fin 5) t := rfl
theorem after_4 (c : Dev nD) (t : Fin (cfg0 a).N) : (dats a m ρ 0 c).after (4 : Fin 5) t = acc a m ρ c t.val t.isLt := rfl

/-- Every input buffer holds its block when the body runs. -/
theorem before_0 (c : Dev nD) (t : Fin (cfg0 a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfg0 a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfg0 a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfg0 a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-- A point that leaves the result's buffer alone is a later column of an unused block. -/
theorem idle_iff (t : Fin (cfg0 a).N) : (cfg0 a).idle (4 : Fin 5) ((cfg0 a).grid.coords t) = true
    ↔ ¬ t.val % 7 = 0 ∧ ¬ live a.1 (grid0.coords t) := by
  rw [idle_eq, ← cond1_iff t]; simp

/-- Through such a point the buffer's contents stay. -/
theorem carry_4 (c : Dev nD) (t : Fin (cfg0 a).N) (ht : t.val ≠ 0) (hi : (cfg0 a).idle (4 : Fin 5) ((cfg0 a).grid.coords t) = true)
    (hf : (cfg0 a).fresh (4 : Fin 5) t.val = false) :
    (dats a m ρ 0 c).after (4 : Fin 5) t = (dats a m ρ 0 c).after (4 : Fin 5) ⟨t.val - 1, by omega⟩ := by
  obtain ⟨h7, hl⟩ := (idle_iff a t).mp hi
  rw [after_4, after_4, acc_step a m ρ c t h7, addTerm, if_neg hl]

/-- The result's buffer before a later column holds what the point before left. -/
theorem before_4 (c : Dev nD) (t : Fin (cfg0 a).N) (h : ¬ t.val % 7 = 0) (d) :
    (dats a m ρ 0 c).before (4 : Fin 5) t d = acc a m ρ c (t.val - 1) (by omega) := by
  rw [(dats a m ρ 0 c).before_out_traj (4 : Fin 5) rfl (fun _ _ => rfl) (carry_4 a m ρ c) t.val t rfl d, fresh_eq, decide_eq_false h]
  rfl

/-- A row block is used at all its columns or at none. -/
theorem live_next (t : Fin (cfg0 a).N) (h : t.val + 1 < (cfg0 a).N) (h7 : (t.val + 1) % 7 ≠ 0)
    (hl : live a.1 (grid0.coords ⟨t.val + 1, h⟩)) : live a.1 (grid0.coords t) := by
  have e : (grid0.coords ⟨t.val + 1, h⟩ 0).val = (grid0.coords t 0).val := by
    rw [coord_row, coord_row]; show (t.val + 1) / 7 = t.val / 7; omega
  unfold live k0_cond2 at hl ⊢
  rwa [e] at hl

theorem rows_next (c : Dev nD) (n : ℕ) (h7 : (n + 1) % 7 ≠ 0) : rows a m ρ c (n + 1) = rows a m ρ c n := by
  have e : (n + 1) / 7 = n / 7 := by omega
  unfold rows; rw [e]

theorem rows_start (c : Dev nD) (t : Fin (cfg0 a).N) (h : t.val % 7 = 0) :
    rows a m ρ c t.val = k0_pay2 (iblk a m ρ c (0 : Fin 5) t) := by
  have e : t.val / 7 * 7 = t.val := by omega
  unfold rows
  rw [e, rowsAt, dif_pos t.isLt]

set_option maxHeartbeats 4000000 in
/-- The body keeps to the contents, at every point. -/
theorem body_point (c : Dev nD) (t : Fin (cfg0 a).N) :
    iprop((dats a m ρ 0 c).Φ t.castSucc ∗ (dats a m ρ 0 c).owesAt () t.castSucc
        ∗ (∃ d, owns (c : Thread nD τ) (st0 a t) fullShare ((dats a m ρ 0 c).before (0 : Fin 5) t d))
        ∗ (∃ d, owns (c : Thread nD τ) (st1 a t) fullShare ((dats a m ρ 0 c).before (1 : Fin 5) t d))
        ∗ (∃ d, owns (c : Thread nD τ) (st2 a t) fullShare ((dats a m ρ 0 c).before (2 : Fin 5) t d))
        ∗ (∃ d, owns (c : Thread nD τ) (st3 a t) fullShare ((dats a m ρ 0 c).before (3 : Fin 5) t d))
        ∗ (∃ d, owns (c : Thread nD τ) (st4 a t) fullShare ((dats a m ρ 0 c).before (4 : Fin 5) t d)))
      ⊢ wp frame (wpE (defs₀ (F := F)) Variants.none c none) Set.univ
          (kern ((cfg0 a).grid.coords t) (st0 a t) (hstage0_0 (((cfg0 a).slots t (0 : Fin 5)).cast nbuf0_0)) (st1 a t) (hstage0_1 (((cfg0 a).slots t (1 : Fin 5)).cast nbuf0_1))
            (st2 a t) (hstage0_2 (((cfg0 a).slots t (2 : Fin 5)).cast nbuf0_2)) (st3 a t) (hstage0_3 (((cfg0 a).slots t (3 : Fin 5)).cast nbuf0_3))
            (st4 a t) (hstage0_4 (((cfg0 a).slots t (4 : Fin 5)).cast nbuf0_4))) fun _ =>
          iprop((dats a m ρ 0 c).Φ t.succ ∗ (dats a m ρ 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a m ρ 0 c).before w t d))
                  | true => owns (c : Thread nD τ) (((cfg0 a).win w).stage ((cfg0 a).slots t w)) fullShare ((dats a m ρ 0 c).after w t)
                | false => owns (c : Thread nD τ) (((cfg0 a).win w).stage ((cfg0 a).slots t w)) fullShare ((dats a m ρ 0 c).after w t)) := by
  rw [bigSep_W0]
  by_cases h7 : t.val % 7 = 0
  · have p1 : k0_cond1 ((cfg0 a).grid.coords t) = 1#1 := (cond1_iff t).mpr h7
    have i4 : (cfg0 a).idle (4 : Fin 5) ((cfg0 a).grid.coords t) = false := by
      rw [Bool.eq_false_iff]; exact fun h => ((idle_iff a t).mp h).1 h7
    rewrite [i4]
    simp only [before_0, before_1, before_2, before_3, after_0, after_1, after_2, after_3, after_4]
    rewrite [show (dats a m ρ 0 c).Φ t.succ = Phi a m ρ c (t.val + 1) from rfl, show (dats a m ρ 0 c).Φ t.castSucc = Phi a m ρ c t.val from rfl,
      show (dats a m ρ 0 c).owesAt () t.succ = (dats a m ρ 0 c).owesAt () t.castSucc from rfl]
    rewrite [acc_start a m ρ c t h7]
    unfold Phi
    by_cases hl : live a.1 (grid0.coords t)
    · rewrite [addTerm, if_pos hl, rows_start a m ρ c t h7]
      iintro ⟨⟨⟨%X, -, HS⟩, HT⟩, Ho, ⟨%d0, H0⟩, ⟨%d1, H1⟩, ⟨%d2, H2⟩, ⟨%d3, H3⟩, ⟨%d4, H4⟩⟩
      iapply run_start c ((cfg0 a).grid.coords t) _ _ _ _ _ _ _ _ _ _ (exps a.1) (used a.1) (iblk a m ρ c (0 : Fin 5) t) (iblk a m ρ c (1 : Fin 5) t) (iblk a m ρ c (2 : Fin 5) t) (iblk a m ρ c (3 : Fin 5) t) p1 hl
      isplitl [H0 H1 H2 H3]
      · iapply inputs_of_owns
        isplitl [H0]; · iexact H0
        isplitl [H1]; · iexact H1
        isplitl [H2]; · iexact H2
        iexact H3
      isplitl [HT]; · iexact HT
      isplitl [H4]; · iexists _; iexact H4
      isplitl [HS]; · iexists _; iexact HS
      iintro ⟨HI, HT, H4, HS⟩
      isplitl [HT HS]
      · isplitl [HS]
        · iexists _; isplitr; swap
          · iexact HS
          · ipureintro; intro _ h _
            rw [rows_next a m ρ c t.val h, rows_start a m ρ c t h7]
        iexact HT
      isplitl [Ho]; · iexact Ho
      ihave ⟨H0, H1, H2, H3⟩ := owns_of_inputs $$ HI
      isplitl [H0]; · iexact H0
      isplitl [H1]; · iexact H1
      isplitl [H2]; · iexact H2
      isplitl [H3]; · iexact H3
      iexact H4
    · rewrite [addTerm, if_neg hl]
      iintro ⟨⟨HS, HT⟩, Ho, ⟨%d0, H0⟩, ⟨%d1, H1⟩, ⟨%d2, H2⟩, ⟨%d3, H3⟩, ⟨%d4, H4⟩⟩
      iapply run_zero c ((cfg0 a).grid.coords t) _ _ _ _ _ _ _ _ _ _ (exps a.1) (used a.1) (iblk a m ρ c (0 : Fin 5) t) (iblk a m ρ c (1 : Fin 5) t) (iblk a m ρ c (2 : Fin 5) t) (iblk a m ρ c (3 : Fin 5) t) p1 hl
      isplitl [H0 H1 H2 H3]
      · iapply inputs_of_owns
        isplitl [H0]; · iexact H0
        isplitl [H1]; · iexact H1
        isplitl [H2]; · iexact H2
        iexact H3
      isplitl [HT]; · iexact HT
      isplitl [H4]; · iexists _; iexact H4
      iintro ⟨HI, HT, H4⟩
      isplitl [HT HS]
      · isplitl [HS]
        · icases HS with ⟨%X, -, HS⟩
          iexists X; isplitr; swap
          · iexact HS
          · ipureintro; intro h h7' hl'
            exact absurd (live_next a t h h7' hl') hl
        iexact HT
      isplitl [Ho]; · iexact Ho
      ihave ⟨H0, H1, H2, H3⟩ := owns_of_inputs $$ HI
      isplitl [H0]; · iexact H0
      isplitl [H1]; · iexact H1
      isplitl [H2]; · iexact H2
      isplitl [H3]; · iexact H3
      iexact H4
  · have p1 : ¬ k0_cond1 ((cfg0 a).grid.coords t) = 1#1 := fun h => h7 ((cond1_iff t).mp h)
    by_cases hl : live a.1 (grid0.coords t)
    · have i4 : (cfg0 a).idle (4 : Fin 5) ((cfg0 a).grid.coords t) = false := by
        rw [Bool.eq_false_iff]; exact fun h => ((idle_iff a t).mp h).2 hl
      rewrite [i4]
      simp only [before_0, before_1, before_2, before_3, before_4 a m ρ c t h7, after_0, after_1, after_2, after_3, after_4]
      rewrite [show (dats a m ρ 0 c).Φ t.succ = Phi a m ρ c (t.val + 1) from rfl, show (dats a m ρ 0 c).Φ t.castSucc = Phi a m ρ c t.val from rfl,
        show (dats a m ρ 0 c).owesAt () t.succ = (dats a m ρ 0 c).owesAt () t.castSucc from rfl]
      rewrite [acc_step a m ρ c t h7, addTerm, if_pos hl]
      unfold Phi
      iintro ⟨⟨⟨%X, %hX, HS⟩, HT⟩, Ho, ⟨%d0, H0⟩, ⟨%d1, H1⟩, ⟨%d2, H2⟩, ⟨%d3, H3⟩, ⟨%d4, H4⟩⟩
      have hX' := hX t.isLt h7 hl
      subst hX'
      iapply run_add c ((cfg0 a).grid.coords t) _ _ _ _ _ _ _ _ _ _ (exps a.1) (used a.1) (iblk a m ρ c (0 : Fin 5) t) (iblk a m ρ c (1 : Fin 5) t) (iblk a m ρ c (2 : Fin 5) t) (iblk a m ρ c (3 : Fin 5) t) p1 hl
      isplitl [H0 H1 H2 H3]
      · iapply inputs_of_owns
        isplitl [H0]; · iexact H0
        isplitl [H1]; · iexact H1
        isplitl [H2]; · iexact H2
        iexact H3
      isplitl [HT]; · iexact HT
      isplitl [H4]; · iapply rep_of_owns; iexact H4
      isplitl [HS]; · iexact HS
      iintro ⟨HI, HT, H4, HS⟩
      isplitl [HT HS]
      · isplitl [HS]
        · iexists _; isplitr; swap
          · iexact HS
          · ipureintro; intro _ h _
            rw [rows_next a m ρ c t.val h]
        iexact HT
      isplitl [Ho]; · iexact Ho
      ihave ⟨H0, H1, H2, H3⟩ := owns_of_inputs $$ HI
      isplitl [H0]; · iexact H0
      isplitl [H1]; · iexact H1
      isplitl [H2]; · iexact H2
      isplitl [H3]; · iexact H3
      iexact H4
    · have i4 : (cfg0 a).idle (4 : Fin 5) ((cfg0 a).grid.coords t) = true := (idle_iff a t).mpr ⟨h7, hl⟩
      have e4 : acc a m ρ c t.val t.isLt = acc a m ρ c (t.val - 1) (by omega) := by
        rw [acc_step a m ρ c t h7, addTerm, if_neg hl]
      rewrite [i4]
      simp only [before_0, before_1, before_2, before_3, before_4 a m ρ c t h7, after_0, after_1, after_2, after_3, after_4]
      rewrite [show (dats a m ρ 0 c).Φ t.succ = Phi a m ρ c (t.val + 1) from rfl, show (dats a m ρ 0 c).Φ t.castSucc = Phi a m ρ c t.val from rfl,
        show (dats a m ρ 0 c).owesAt () t.succ = (dats a m ρ 0 c).owesAt () t.castSucc from rfl]
      rewrite [e4]
      unfold Phi
      iintro ⟨⟨HS, HT⟩, Ho, ⟨%d0, H0⟩, ⟨%d1, H1⟩, ⟨%d2, H2⟩, ⟨%d3, H3⟩, ⟨%d4, H4⟩⟩
      iapply run_skip c ((cfg0 a).grid.coords t) _ _ _ _ _ _ _ _ _ _ (exps a.1) (used a.1) p1 hl
      isplitl [HT]; · iexact HT
      iintro HT
      isplitl [HT HS]
      · isplitl [HS]
        · icases HS with ⟨%X, -, HS⟩
          iexists X; isplitr; swap
          · iexact HS
          · ipureintro; intro h h7' hl'
            exact absurd (live_next a t h h7' hl') hl
        iexact HT
      isplitl [Ho]; · iexact Ho
      isplitl [H0]; · iexact H0
      isplitl [H1]; · iexact H1
      isplitl [H2]; · iexact H2
      isplitl [H3]; · iexact H3
      cases ((cfg0 a).win (4 : Fin 5)).flush t
      · iexists d4; iexact H4
      · iexact H4

/-- The library's obligation of the body. -/
theorem body_holds (c : Dev nD) : BodyObligation (dats a m ρ 0 c) (defs₀ (F := F)) Variants.none () Set.univ := fun t => by
  rw [bigSep_W0]
  exact body_point a m ρ c t

end Cert.Routed

end
-- ==== Proof.Frame.lean ====
/- The experts' call runs to its end from any memory whose tables are admissible: its arrays end as computed, its arguments unchanged. -/
module

public import proofs.«01_k».proof.Proof.Held
public import Idealize.ShloMosaic.Lib.Pipeline.Quiescent
public import Idealize.ShloMosaic.Lib.Claim
public import Idealize.ShloMosaic.Adequacy
public import Idealize.ShloMosaic.Init

@[expose] public section

set_option maxRecDepth 16384
set_option Elab.async false

noncomputable section

namespace Cert.Routed

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- The memory's tables are the admissible contents. -/
def Tabled : Prop := ∀ (c : Dev nD) (j : Fin 2), m ((c : Thread nD τ).loc (pre0.ref j)) = a.1 j

/-- The call's pipeline at the contents. -/
abbrev pinned : Fin 1 → Pipeline.Cfg sig Λ₀ := Pipeline.pin (pcfgs (F := F)) fun _ => a

/-- The launch element. -/
def launchElt : UR sig nD τ :=
  initOf (Pipeline.cells (pinned a) ((launch0 (F := F)).cellOf_inj fun _ => a)) (Pipeline.launchToks (pinned a) ((launch0 (F := F)).cellOf_inj fun _ => a))

theorem share_full (c : Dev nD) (w : Fin (cfg0 a).W) : (dats a m ρ 0 c).share w = fullShare := by unfold Dat.share; split <;> rfl

/-- The tables as handed to the region, one by one. -/
theorem held_tables (c : Dev nD) (v : pre0.Contents (Elt F)) :
    (Pipeline.prefHeld (Ix := Unit) (Name := ℕ) (U := UR sig nD τ) (Lvl := ℕ) pre0 c (fun _ => fullShare.right) v : sProp 𝕄)
      = tables c (exps v) (used v) := by
  unfold Pipeline.prefHeld
  rw [show (Finset.univ : Finset (Fin 2)) = insert (0 : Fin 2) {(1 : Fin 2)} from by decide, bigSep_insert (by decide), bigSep_singleton]
  rfl

/-- Before the first point: the scratch at anything, the tables. -/
theorem phi_first (c : Dev nD) :
    iprop(BI.emp ∗ Pipeline.prefHeld pre0 c (fun _ => fullShare.right) a.1 ∗ Pipeline.scopedRest spec0 c) ⊢ (dats a m ρ 0 c).Φ 0 := by
  rw [held_tables, scopedRest0_eq, show (dats a m ρ 0 c).Φ 0 = Phi a m ρ c 0 from rfl]
  unfold Phi scratch
  iintro ⟨-, HT, ⟨%b, HS⟩⟩
  isplitl [HS]
  · iexists _; isplitr; swap
    · iexists b; isplitr; swap
      · iexact HS
      · ipureintro; rfl
    · ipureintro; intro _ h; exact absurd rfl h
  iexact HT

/-- After the last point the scratch is given back. -/
theorem phi_last (c : Dev nD) : (dats a m ρ 0 c).Φ (Fin.last (cfg0 a).N) ⊢ iprop(BI.emp ∗ Pipeline.scopedRest spec0 c) := by
  rw [scopedRest0_eq, show (dats a m ρ 0 c).Φ (Fin.last (cfg0 a).N) = Phi a m ρ c (cfg0 a).N from rfl]
  unfold Phi scratch
  iintro ⟨⟨%X, -, %b, -, HS⟩, -⟩
  isplitr; · iempintro
  iexists b; iexact HS

/-- Where the run ends: every array as computed, the tables as they were. -/
def Ends : PUnit × MemSt nD τ sig (Elt F) → Prop := fun r =>
  ∀ c : Dev nD, (∀ w : Fin (cfg0 a).W, r.2.mem (((cfg0 a).win w).arr.view.loc (c : Thread nD τ)) = (dats a m ρ 0 c).arrAt w (cfg0 a).N)
    ∧ ∀ j, r.2.mem ((c : Thread nD τ).loc (pre0.ref j)) = a.1 j

set_option backward.isDefEq.respectTransparency.types false in
set_option maxHeartbeats 4000000 in
/-- The call runs to its end, with every semaphore at zero. -/
theorem runs (hp : Tabled a m) :
    θ_run (defs (F := F)) (onTc (τ := τ) (main (F := F))) (s₀ m ρ) (fun r => Ends a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre (emb₁ : Emb (UR sig nD τ) 𝕄) defs₀ Variants.none m ρ main
    (hbody := fun c => (body_holds a m ρ c).loose) (hne := (launch0 (F := F)).block_pos)
    (harr := (launch0 (F := F)).arr_whole) (hstage := (launch0 (F := F)).stage_whole) (howed := fun _ _ => rfl)
    (u₀ := launchElt a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned a) (dats a m ρ) 0 (launch0 (F := F)).win.arr_inj c (launch0 (F := F)).arr_whole
      (share_full a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_first a m ρ)
    (hout := phi_last a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: every argument ends unchanged, every semaphore at zero. -/
theorem unchanged (hp : Tabled a m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp c 0).symm, ((h.1 c).2 1).trans (hp c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩,
    h.2⟩) (runs a m ρ hp)

end Cert.Routed

end
-- ==== Proof.Admit.lean ====
/- The tables the precondition admits: every expert is one of eight, and at least one row block is used. With such tables every
   block the call fetches lies inside its array, so the call's side condition holds. -/
module

public import proofs.«01_k».proof.Proof.Points
public import proofs.«01_k».proof.Proof.Gen.Pre_routed
public import Idealize.ShloMosaic.Lib.ReduceAll
public import Idealize.ShloMosaic.Lib.WordCmp

@[expose] public section

set_option maxRecDepth 16384

noncomputable section

namespace Cert.Routed

open Cert.ExpertsIdeal Cert.ExpertsIdeal.Gen
open Idealize.ShloMosaic
open Idealize.ShloMosaic.TcCoe

variable {F : FTy → Type} [FloatOps F]

/-- The number of used row blocks. -/
def count (pf : pre0.Contents (Elt F)) : ℕ := BitVec.toNat (w := 32) (word (used pf))

/-- The index of a row block in the table of experts. -/
def place (r : Fin 136) : S136.Idx := fun | ⟨0, _⟩ => r | ⟨_ + 1, h⟩ => absurd h (by simp)

/-- The expert of a row block. -/
def expert (pf : pre0.Contents (Elt F)) (r : Fin 136) : ℕ := BitVec.toNat (w := 32) (exps pf (place r))

/-- What the precondition says of the tables. -/
structure InRange (pf : pre0.Contents (Elt F)) : Prop where
  expert_lt : ∀ r, expert pf r < 8
  count_pos : 1 ≤ count pf
  count_lt : count pf < 2 ^ 31

/-- Two words of natural numbers below the sign bit compare as the numbers do. -/
theorem slt_nat (x y : BitVec 32) (hx : x.toNat < 2 ^ 31) (hy : y.toNat < 2 ^ 31) : Scalar.cmpi .slt x y = BitVec.ofBool (decide (x.toNat < y.toNat)) :=
  WordCmp.cmpi_slt_of_lt hx hy

/-- A point is of a used row block when its row block is below the count. -/
theorem live_iff (pf : pre0.Contents (Elt F)) (hp : InRange pf) (i : grid0.Coords) : live pf i ↔ (i 0).val < count pf := by
  have hi : (i 0).val < 136 := (i 0).isLt
  have hc := hp.count_lt
  have e : (BitVec.ofNat 32 (i 0).val).toNat = (i 0).val := by rw [BitVec.toNat_ofNat, Nat.mod_eq_of_lt (by omega)]
  have key : ∀ b : Bool, Scalar.cmpi .ne (Scalar.extui (BitVec.ofBool b) : BitVec 32) 0#32 = 1#1 ↔ b = true := by decide
  unfold live k0_cond2
  dsimp only
  rw [slt_nat _ _ (by rw [e]; omega) (show count pf < _ by omega), e]
  exact (key _).trans decide_eq_true_iff

/-- The block of the rows at a point: its row block, or the last used one. -/
theorem index_rows (pf : pre0.Contents (Elt F)) (hp : InRange pf) (i : grid0.Coords) :
    cc0_transform_0 inb_S1_S1_0 numel1_S1 pf i = ![min (i 0).val (count pf - 1), 0] := by
  have hi : (i 0).val < 136 := (i 0).isLt
  have hc := hp.count_lt
  have hc1 := hp.count_pos
  have e : (BitVec.ofNat 32 (i 0).val).toNat = (i 0).val := by rw [BitVec.toNat_ofNat, Nat.mod_eq_of_lt (by omega)]
  have e1 : (BitVec.toNat (w := 32) (word (used pf) - 1#32)) = count pf - 1 := by
    rw [BitVec.toNat_sub]
    show (2 ^ 32 - 1 + count pf) % 2 ^ 32 = _
    omega
  refine Eq.trans (b := ![(Scalar.minsi (BitVec.ofNat 32 (i 0).val) (word (used pf) - 1#32)).toNat, 0]) rfl ?_
  congr 1
  show BitVec.toNat (if BitVec.slt (BitVec.ofNat 32 (i 0).val) (word (used pf) - 1#32) = true then BitVec.ofNat 32 (i 0).val else word (used pf) - 1#32) = _
  have hs : BitVec.slt (BitVec.ofNat 32 (i 0).val) (word (used pf) - 1#32) = decide ((i 0).val < count pf - 1) := by
    have := slt_nat (BitVec.ofNat 32 (i 0).val) (word (used pf) - 1#32) (by rw [e]; omega) (by rw [e1]; omega)
    rw [e, e1] at this
    have inj : ∀ b d : Bool, BitVec.ofBool b = BitVec.ofBool d → b = d := by decide
    exact inj _ _ this
  rw [hs]
  by_cases h : (i 0).val < count pf - 1
  · rw [decide_eq_true h, if_pos rfl, e]; omega
  · rw [decide_eq_false h, if_neg (by decide), e1]; omega

/-- The column a point reads of its expert's weights: its own, or the last in an unused row block. -/
def column (pf : pre0.Contents (Elt F)) (i : grid0.Coords) : ℕ := if (i 0).val < count pf then (i 1).val else 6

theorem column_lt (pf : pre0.Contents (Elt F)) (i : grid0.Coords) : column pf i < 7 := by
  unfold column; split
  · exact (i 1).isLt
  · decide

/-- The word an index map chooses as the column. -/
theorem column_word (pf : pre0.Contents (Elt F)) (hp : InRange pf) (i : grid0.Coords) :
    (Scalar.select (Scalar.cmpi .slt (BitVec.ofNat 32 (i 0).val) (word (used pf))) (BitVec.ofNat 32 (i 1).val) 6#32).toNat = column pf i := by
  have hi : (i 0).val < 136 := (i 0).isLt
  have hj : (i 1).val < 7 := (i 1).isLt
  have hc := hp.count_lt
  have e : (BitVec.ofNat 32 (i 0).val).toNat = (i 0).val := by rw [BitVec.toNat_ofNat, Nat.mod_eq_of_lt (by omega)]
  rw [slt_nat _ _ (by rw [e]; omega) (show count pf < _ by omega), e]
  unfold column
  by_cases h : (i 0).val < count pf
  · rw [if_pos h, show decide ((i 0).val < BitVec.toNat (w := 32) (word (used pf))) = true from decide_eq_true h]
    show (BitVec.ofNat 32 (i 1).val).toNat = _
    rw [BitVec.toNat_ofNat, Nat.mod_eq_of_lt (by omega)]
  · rw [if_neg h, show decide ((i 0).val < BitVec.toNat (w := 32) (word (used pf))) = false from decide_eq_false h]
    rfl

/-- The word an index map reads as the expert. -/
theorem expert_word (pf : pre0.Contents (Elt F)) (i : grid0.Coords) :
    pf.at 0 (Rect.unit (s := S136) ![(Scalar.indexCast (BitVec.ofNat 32 (i 0).val)).toNat] S1.size (k0_off1_inb i)) numel1_S1
      = exps pf (place (i 0)) := by
  have hi : (i 0).val < 136 := (i 0).isLt
  refine congrArg (pf 0) (funext fun a => Fin.ext ?_)
  match a with
  | ⟨0, _⟩ =>
    show (BitVec.ofNat 32 (i 0).val).toNat + 1 * _ = (i 0).val
    rw [BitVec.toNat_ofNat, Nat.mod_eq_of_lt (by omega)]
    rfl

/-- The blocks of the three weight arrays at a point. -/
theorem index_w1 (pf : pre0.Contents (Elt F)) (hp : InRange pf) (i : grid0.Coords) :
    cc0_transform_1 k0_off1_inb numel1_S1 inb_S1_S1_0 pf i = ![0, expert pf (i 0), 0, column pf i] := by
  rw [← column_word pf hp i]; unfold expert; rw [← expert_word pf i]; rfl
theorem index_w3 (pf : pre0.Contents (Elt F)) (hp : InRange pf) (i : grid0.Coords) :
    cc0_transform_2 k0_off1_inb numel1_S1 inb_S1_S1_0 pf i = ![0, expert pf (i 0), 0, column pf i] := by
  rw [← column_word pf hp i]; unfold expert; rw [← expert_word pf i]; rfl
theorem index_w2 (pf : pre0.Contents (Elt F)) (hp : InRange pf) (i : grid0.Coords) :
    cc0_transform_3 k0_off1_inb numel1_S1 inb_S1_S1_0 pf i = ![0, expert pf (i 0), column pf i, 0] := by
  rw [← column_word pf hp i]; unfold expert; rw [← expert_word pf i]; rfl

/-- The call's side condition holds of tables in range. -/
theorem admissible (pf : pre0.Contents (Elt F)) (hp : InRange pf) : ok0 pf := by
  have he := hp.expert_lt
  have hc := hp.count_lt
  refine ⟨fun i => ?_, fun i => ?_, fun i => ?_, fun i => ?_⟩
  · have hi : (i 0).val < 136 := (i 0).isLt
    refine ⟨?_, .inl rfl⟩
    rw [index_rows pf hp i]
    intro a
    match a with
    | ⟨0, _⟩ => show (min (i 0).val (count pf - 1) + 1) * 512 ≤ 69632; omega
    | ⟨1, _⟩ => exact le_refl 2048
  · have := he (i 0); have := column_lt pf i
    have hb : ∀ a, (cc0_transform_1 k0_off1_inb numel1_S1 inb_S1_S1_0 pf i a + 1) * S1x1x2048x1024.size a ≤ S2x8x2048x7168.size a := by
      rw [index_w1 pf hp i]
      intro a
      match a with
      | ⟨0, _⟩ => show (0 + 1) * 1 ≤ 2; decide
      | ⟨1, _⟩ => show (expert pf (i 0) + 1) * 1 ≤ 8; omega
      | ⟨2, _⟩ => exact le_refl 2048
      | ⟨3, _⟩ => show (column pf i + 1) * 1024 ≤ 7168; omega
    exact ⟨hb, .inr (.inr ⟨by decide, rfl, rfl, rfl⟩)⟩
  · have := he (i 0); have := column_lt pf i
    have hb : ∀ a, (cc0_transform_2 k0_off1_inb numel1_S1 inb_S1_S1_0 pf i a + 1) * S1x1x2048x1024.size a ≤ S2x8x2048x7168.size a := by
      rw [index_w3 pf hp i]
      intro a
      match a with
      | ⟨0, _⟩ => show (0 + 1) * 1 ≤ 2; decide
      | ⟨1, _⟩ => show (expert pf (i 0) + 1) * 1 ≤ 8; omega
      | ⟨2, _⟩ => exact le_refl 2048
      | ⟨3, _⟩ => show (column pf i + 1) * 1024 ≤ 7168; omega
    exact ⟨hb, .inr (.inr ⟨by decide, rfl, rfl, rfl⟩)⟩
  · have := he (i 0); have := column_lt pf i
    have hb : ∀ a, (cc0_transform_3 k0_off1_inb numel1_S1 inb_S1_S1_0 pf i a + 1) * S1x1x1024x2048.size a ≤ S2x8x7168x2048.size a := by
      rw [index_w2 pf hp i]
      intro a
      match a with
      | ⟨0, _⟩ => show (0 + 1) * 1 ≤ 2; decide
      | ⟨1, _⟩ => show (expert pf (i 0) + 1) * 1 ≤ 8; omega
      | ⟨2, _⟩ => show (column pf i + 1) * 1024 ≤ 7168; omega
      | ⟨3, _⟩ => exact le_refl 2048
    refine ⟨hb, .inr (.inl (.inr ⟨by decide, rfl, .inl ⟨?_, ?_⟩⟩))⟩
    · exact Dvd.dvd.mul_left (show EltTy.packing .bf16 ∣ 1024 by decide) _
    · show EltTy.packing .bf16 ∣ 1024
      decide

/-- Tables that the precondition's function holds of are in range. -/
theorem inRange_of_routed (pf : pre0.Contents (Elt F)) (x : FVec F S69632x2048 .f32) (w1 w3 : FVec F S2x8x2048x7168 .bf16) (w2 : FVec F S2x8x7168x2048 .bf16)
    (h : Cert.Pre_routed.fn (F := F) (exps pf) (used pf) x w1 w3 w2 = fun _ => 1#1) : InRange pf := by
  have h0 := congrFun h (fun a => a.elim0)
  obtain ⟨hA, hB⟩ := IntOp.andi_eq_one.mp h0
  have : Subsingleton Cert.Pre_routed.S_.Idx := ⟨fun _ _ => funext fun a => a.elim0⟩
  have lo : ∀ x k : BitVec 32, IntOp.cmpi .sge x k = 1#1 → k.toInt ≤ x.toInt := fun x k h => by
    by_contra hc
    have e : IntOp.cmpi .sge x k = BitVec.ofBool (decide (k.toInt ≤ x.toInt)) := rfl
    rw [e, decide_eq_false hc] at h
    exact absurd h (by decide)
  have hi : ∀ x k : BitVec 32, IntOp.cmpi .slt x k = 1#1 → x.toInt < k.toInt := fun x k h => by
    by_contra hc
    have e : IntOp.cmpi .slt x k = BitVec.ofBool (decide (x.toInt < k.toInt)) := rfl
    rw [e, decide_eq_false hc] at h
    exact absurd h (by decide)
  have hb := fun j => Host.reduce_andi_all _ _ _ _ _ hB j
  have b1 : IntOp.cmpi .sge (word (used pf)) 1#32 = 1#1 := hb _
  have b1' := lo (word (used pf)) 1#32 b1
  have t1 : (1#32 : BitVec 32).toInt = 1 := by decide
  have t0 : (0#32 : BitVec 32).toInt = 0 := by decide
  have t8 : (8#32 : BitVec 32).toInt = 8 := by decide
  rw [t1] at b1'
  rw [BitVec.toInt_eq_toNat_cond] at b1'
  refine ⟨fun r => ?_, ?_, ?_⟩
  · obtain ⟨a1, a2⟩ := IntOp.andi_eq_one.mp (Host.reduce_andi_all _ _ _ _ _ hA (place r))
    have a1' := lo (exps pf (place r)) 0#32 a1
    have a2' := hi (exps pf (place r)) 8#32 a2
    rw [t0] at a1'
    rw [t8] at a2'
    rw [BitVec.toInt_eq_toNat_cond] at a1' a2'
    unfold expert
    split at a1' <;> omega
  · unfold count; split at b1' <;> omega
  · unfold count; split at b1' <;> omega

end Cert.Routed

end
-- ==== Proof.Experts.lean ====
/- The frames of the experts' call, bit by bit and idealized. -/
module

public import proofs.«01_k».proof.Defs
public import proofs.«01_k».proof.Proof.Frame
public import proofs.«01_k».proof.Proof.Admit
public import proofs.«01_k».proof.Proof.Gen.Experts
public import proofs.«01_k».proof.Proof.Gen.ExpertsReferenceIdeal.Run
public import proofs.«01_k».proof.Proof.Gen.ExpertsReferenceIdeal.Read

@[expose] public section

set_option maxRecDepth 16384

noncomputable section

namespace Cert.Routed

open Cert.ExpertsIdeal Cert.ExpertsIdeal.Gen
open Idealize.ShloMosaic
open Idealize.ShloMosaic.TcCoe

variable {F : FTy → Type} [FloatOps F]

/-- The tables the memory holds at launch. -/
def tablesOf (m : (ℓ : Loc nD τ sig) → Buf (Elt F) ℓ) : pre0.Contents (Elt F) :=
  fun j => m (((0 : Dev nD) : Thread nD τ).loc (pre0.ref j))

/-- They are the memory's tables on every device, there being one. -/
theorem tabled_of (m : (ℓ : Loc nD τ sig) → Buf (Elt F) ℓ) (h : ok0 (tablesOf m)) : Tabled ⟨tablesOf m, h⟩ m := fun c j => by
  have : c = 0 := Subsingleton.elim _ _
  rw [this]; rfl

/-- The frame of the idealized call. -/
theorem frame_ideal : Cert.quiescent_ExpertsIdeal := fun m g hp =>
  unchanged ⟨tablesOf m, admissible _ (inRange_of_routed (tablesOf m) _ _ _ _ (hp 0))⟩ m g (tabled_of m _)

/-- The call on bits and the idealized call have one body, -/
theorem body_same : Cert.Experts.defs₀ (F := F) = Cert.ExpertsIdeal.defs₀ (F := F) := by
  unfold Cert.Experts.defs₀ Cert.ExpertsIdeal.defs₀
  refine congrArg Defs.onTc (funext fun l => funext fun x => ?_)
  match l, x with
  | 0, (t, s) => rfl

/-- and one pipeline. -/
theorem defs_same : Cert.Experts.defs (F := F) = Cert.ExpertsIdeal.defs (F := F) := by
  show Pipeline.defs Cert.Experts.pcfgs Cert.Experts.defs₀ = Pipeline.defs Cert.Experts.pcfgs Cert.ExpertsIdeal.defs₀
  rw [body_same]

/-- The frame of the call on bits: that of the idealized call, read at bits. -/
theorem frame_bits : Cert.quiescent_Experts := fun m g hp => by
  rw [defs_same]
  exact unchanged ⟨tablesOf m, admissible _ (inRange_of_routed (tablesOf m) _ _ _ _ (hp 0))⟩ m g (tabled_of m _)

end Cert.Routed

end
-- ==== Proof.Hidden.lean ====
/- One column block's term of the experts' call, index by index. -/
module

public import proofs.«01_k».proof.Proof.Gen.ExpertsIdeal.Skeleton
public import Idealize.ShloMosaic.Lib.Pointwise

@[expose] public section

set_option maxRecDepth 16384

noncomputable section

namespace Cert.Hidden

open Cert.ExpertsIdeal Cert.ExpertsIdeal.Gen
open Idealize.ShloMosaic Idealize.ShloMosaic.Pointwise
open Idealize.ShloMosaic.TcCoe

/-- The hidden unit from its two products: the first through the gate `u / (1 + exp (-u))`, times the second. -/
def gate (u v : EReal) : EReal := u * Ideal.div 1 (1 + Ideal.exp (0 - u)) * v

/-- The hidden unit `f` of row `r` under expert `e`. -/
def unit (X : FVec Ideal S69632x2048 .f32) (W1 W3 : FVec Ideal S2x8x2048x7168 .bf16) (e : Fin 8) (r : Fin 69632) (f : Fin 7168) : EReal :=
  gate (∑ d : Fin 2048, X (ix2 r d) * W1 (ix4 0 e d f)) (∑ d : Fin 2048, X (ix2 r d) * W3 (ix4 0 e d f))

/-- The network's output `q` of row `r` under expert `e`. -/
def output (X : FVec Ideal S69632x2048 .f32) (W1 W3 : FVec Ideal S2x8x2048x7168 .bf16) (W2 : FVec Ideal S2x8x7168x2048 .bf16)
    (e : Fin 8) (r : Fin 69632) (q : Fin 2048) : EReal :=
  ∑ f : Fin 7168, unit X W1 W3 e r f * W2 (ix4 0 e f q)

/-- The term of a column block. -/
theorem term_at (x : FVec Ideal S512x2048 .bf16) (w1 w3 : FVec Ideal S1x1x2048x1024 .bf16) (y : FVec Ideal S512x2048 .f32)
    (w2 : FVec Ideal S1x1x1024x2048 .bf16) (p : Fin 512) (q : Fin 2048) :
    k0_pay3 (F := Ideal) x w1 w3 y w2 (ix2 p q) = (y (ix2 p q) : EReal)
      + ∑ f : Fin 1024, gate (∑ d : Fin 2048, x (ix2 p d) * w1 (ix4 0 0 d f)) (∑ d : Fin 2048, x (ix2 p d) * w3 (ix4 0 0 d f)) * w2 (ix4 0 0 f q) := by
  pointwise [k0_pay3]
  rfl

/-- The rounded rows are the rows. -/
theorem rows_at (x : FVec Ideal S512x2048 .f32) (p : Fin 512) (d : Fin 2048) : k0_pay2 (F := Ideal) x (ix2 p d) = (x (ix2 p d) : EReal) := by
  pointwise [k0_pay2]

/-- A sum starts from zero. -/
theorem zero_at (p : Fin 512) (q : Fin 2048) : k0_pay1 (F := Ideal) (ix2 p q) = (0 : EReal) := by
  pointwise [k0_pay1]

/-- A sum over seven column blocks of 1024 is the sum over the 7168 columns. -/
theorem sum_columns (G : Fin 7168 → EReal) :
    ∑ v : Fin 7, ∑ f : Fin 1024, G ⟨1024 * v.val + f.val, by omega⟩ = ∑ f : Fin 7168, G f := by
  rw [← Equiv.sum_comp (finProdFinEquiv (m := 7) (n := 1024)) (fun f => G f), Fintype.sum_prod_type]
  refine Finset.sum_congr rfl fun v _ => Finset.sum_congr rfl fun f _ => congrArg G (Fin.ext ?_)
  show 1024 * v.val + f.val = f.val + 1024 * v.val
  omega

end Cert.Hidden

end
-- ==== Proof.Filled.lean ====
/- What the experts' call leaves in its result, at tables in range. -/
module

public import proofs.«01_k».proof.Proof.Frame
public import proofs.«01_k».proof.Proof.Admit
public import proofs.«01_k».proof.Proof.Hidden
public import Idealize.ShloMosaic.Lib.Pipeline.ValueKit

@[expose] public section

set_option maxRecDepth 16384

noncomputable section

namespace Cert.Routed

open Cert.ExpertsIdeal Cert.ExpertsIdeal.Gen Cert.Hidden
open Idealize.ShloMosaic Idealize.ShloMosaic.Pointwise
open Idealize.ShloMosaic.TcCoe
open Idealize.ShloMosaic.Pipeline (Dat Cfg Window)

variable (a : (pcfg0 (F := Ideal)).Adm) (hp : InRange a.1) (m : (ℓ : Loc nD τ sig) → Buf (Elt Ideal) ℓ) (ρ : Dev nD → PrngReg) (c : Dev nD)

/-- The rows, and the three weight arrays, at launch. -/
abbrev rowsArr : FVec Ideal S69632x2048 .f32 := m ((c : Thread nD τ).loc main_arg2)
abbrev w1Arr : FVec Ideal S2x8x2048x7168 .bf16 := m ((c : Thread nD τ).loc main_arg3)
abbrev w3Arr : FVec Ideal S2x8x2048x7168 .bf16 := m ((c : Thread nD τ).loc main_arg4)
abbrev w2Arr : FVec Ideal S2x8x7168x2048 .bf16 := m ((c : Thread nD τ).loc main_arg5)

/-- A point's row block, as one of 136. -/
def rowBlock (t : Fin grid0.N) : Fin 136 := ⟨t.val / 7, by have : t.val < 952 := lt_of_lt_of_eq t.isLt N_0; omega⟩

theorem coord_block (t : Fin grid0.N) : grid0.coords t 0 = rowBlock t := Fin.ext (coord_row t)

/-- Row `p` of row block `b`. -/
abbrev rowOf (b : Fin 136) (p : Fin 512) : Fin 69632 := ⟨b.val * 512 + p.val, by have := b.isLt; omega⟩

include hp in
/-- The block of rows at a point of a used row block. -/
theorem block_index_rows (t : Fin (cfg0 a).N) (hl : t.val / 7 < count a.1) : ((cfg0 a).win (0 : Fin 5)).index t = ![t.val / 7, 0] := by
  have e := index_rows a.1 hp (grid0.coords t)
  rw [coord_row, Nat.min_eq_left (by omega)] at e
  exact e

include hp in
/-- The rows fetched at a point of a used row block. -/
theorem block_rows (t : Fin (cfg0 a).N) (hl : t.val / 7 < count a.1) (p : Fin 512) (d : Fin 2048) :
    iblk a m ρ c (0 : Fin 5) t (ix2 p d) = rowsArr m c (ix2 (rowOf (rowBlock t) p) d) := by
  have e := block_index_rows a hp t hl
  have h0 := ((cfg0 a).win (0 : Fin 5)).rect_emb_val t (ix2 p d) (0 : Fin 2) rfl
  have h1 := ((cfg0 a).win (0 : Fin 5)).rect_emb_val t (ix2 p d) (1 : Fin 2) rfl
  rw [e] at h0 h1
  refine congrArg (rowsArr m c) (funext fun k => Fin.ext ?_)
  match k with
  | ⟨0, _⟩ => exact h0
  | ⟨1, _⟩ =>
    refine Eq.trans h1 ?_
    show 0 * 2048 + d.val = d.val
    omega

include hp in
/-- A point of a used row block, in its coordinates. -/
theorem used_iff (t : Fin (cfg0 a).N) : live a.1 (grid0.coords t) ↔ t.val / 7 < count a.1 := by
  rw [live_iff a.1 hp, coord_row]

/-- The expert of a row block, as one of eight. -/
def chosen (b : Fin 136) : Fin 8 := ⟨expert a.1 b, hp.expert_lt b⟩

/-- A column of a column block, as one of 7168. -/
abbrev col (v : ℕ) (f : Fin 1024) : Fin 7168 := Fin.ofNat 7168 (1024 * v + f.val)

theorem col_val (v : ℕ) (hv : v < 7) (f : Fin 1024) : (col v f).val = v * 1024 + f.val := by
  show (1024 * v + f.val) % 7168 = _
  omega

/-- The blocks of the weight arrays at a point of a used row block. -/
theorem block_index_w1 (t : Fin (cfg0 a).N) (hl : t.val / 7 < count a.1) :
    ((cfg0 a).win (1 : Fin 5)).index t = ![0, (chosen a hp (rowBlock t)).val, 0, t.val % 7] := by
  have e := index_w1 a.1 hp (grid0.coords t)
  rw [column, coord_row, if_pos hl, coord_col, coord_block] at e
  exact e
theorem block_index_w3 (t : Fin (cfg0 a).N) (hl : t.val / 7 < count a.1) :
    ((cfg0 a).win (2 : Fin 5)).index t = ![0, (chosen a hp (rowBlock t)).val, 0, t.val % 7] := by
  have e := index_w3 a.1 hp (grid0.coords t)
  rw [column, coord_row, if_pos hl, coord_col, coord_block] at e
  exact e
theorem block_index_w2 (t : Fin (cfg0 a).N) (hl : t.val / 7 < count a.1) :
    ((cfg0 a).win (3 : Fin 5)).index t = ![0, (chosen a hp (rowBlock t)).val, t.val % 7, 0] := by
  have e := index_w2 a.1 hp (grid0.coords t)
  rw [column, coord_row, if_pos hl, coord_col, coord_block] at e
  exact e

/-- The weights fetched at a point of a used row block: the expert's, at the point's column block. -/
theorem block_w1 (t : Fin (cfg0 a).N) (hl : t.val / 7 < count a.1) (d : Fin 2048) (f : Fin 1024) :
    iblk a m ρ c (1 : Fin 5) t (ix4 0 0 d f) = w1Arr m c (ix4 0 (chosen a hp (rowBlock t)) d (col (t.val % 7) f)) := by
  have e := block_index_w1 a hp t hl
  have h0 := ((cfg0 a).win (1 : Fin 5)).rect_emb_val t (ix4 0 0 d f) (0 : Fin 4) rfl
  have h1 := ((cfg0 a).win (1 : Fin 5)).rect_emb_val t (ix4 0 0 d f) (1 : Fin 4) rfl
  have h2 := ((cfg0 a).win (1 : Fin 5)).rect_emb_val t (ix4 0 0 d f) (2 : Fin 4) rfl
  have h3 := ((cfg0 a).win (1 : Fin 5)).rect_emb_val t (ix4 0 0 d f) (3 : Fin 4) rfl
  rw [e] at h0 h1 h2 h3
  refine congrArg (w1Arr m c) (funext fun k => Fin.ext ?_)
  match k with
  | ⟨0, _⟩ => exact h0
  | ⟨1, _⟩ => exact h1.trans ((Nat.add_zero _).trans (Nat.mul_one _))
  | ⟨2, _⟩ => exact h2.trans (by show 0 * 2048 + d.val = d.val; omega)
  | ⟨3, _⟩ => exact h3.trans (col_val _ (Nat.mod_lt _ (by decide)) f).symm
theorem block_w3 (t : Fin (cfg0 a).N) (hl : t.val / 7 < count a.1) (d : Fin 2048) (f : Fin 1024) :
    iblk a m ρ c (2 : Fin 5) t (ix4 0 0 d f) = w3Arr m c (ix4 0 (chosen a hp (rowBlock t)) d (col (t.val % 7) f)) := by
  have e := block_index_w3 a hp t hl
  have h0 := ((cfg0 a).win (2 : Fin 5)).rect_emb_val t (ix4 0 0 d f) (0 : Fin 4) rfl
  have h1 := ((cfg0 a).win (2 : Fin 5)).rect_emb_val t (ix4 0 0 d f) (1 : Fin 4) rfl
  have h2 := ((cfg0 a).win (2 : Fin 5)).rect_emb_val t (ix4 0 0 d f) (2 : Fin 4) rfl
  have h3 := ((cfg0 a).win (2 : Fin 5)).rect_emb_val t (ix4 0 0 d f) (3 : Fin 4) rfl
  rw [e] at h0 h1 h2 h3
  refine congrArg (w3Arr m c) (funext fun k => Fin.ext ?_)
  match k with
  | ⟨0, _⟩ => exact h0
  | ⟨1, _⟩ => exact h1.trans ((Nat.add_zero _).trans (Nat.mul_one _))
  | ⟨2, _⟩ => exact h2.trans (by show 0 * 2048 + d.val = d.val; omega)
  | ⟨3, _⟩ => exact h3.trans (col_val _ (Nat.mod_lt _ (by decide)) f).symm
theorem block_w2 (t : Fin (cfg0 a).N) (hl : t.val / 7 < count a.1) (f : Fin 1024) (q : Fin 2048) :
    iblk a m ρ c (3 : Fin 5) t (ix4 0 0 f q) = w2Arr m c (ix4 0 (chosen a hp (rowBlock t)) (col (t.val % 7) f) q) := by
  have e := block_index_w2 a hp t hl
  have h0 := ((cfg0 a).win (3 : Fin 5)).rect_emb_val t (ix4 0 0 f q) (0 : Fin 4) rfl
  have h1 := ((cfg0 a).win (3 : Fin 5)).rect_emb_val t (ix4 0 0 f q) (1 : Fin 4) rfl
  have h2 := ((cfg0 a).win (3 : Fin 5)).rect_emb_val t (ix4 0 0 f q) (2 : Fin 4) rfl
  have h3 := ((cfg0 a).win (3 : Fin 5)).rect_emb_val t (ix4 0 0 f q) (3 : Fin 4) rfl
  rw [e] at h0 h1 h2 h3
  refine congrArg (w2Arr m c) (funext fun k => Fin.ext ?_)
  match k with
  | ⟨0, _⟩ => exact h0
  | ⟨1, _⟩ => exact h1.trans ((Nat.add_zero _).trans (Nat.mul_one _))
  | ⟨2, _⟩ => exact h2.trans (col_val _ (Nat.mod_lt _ (by decide)) f).symm
  | ⟨3, _⟩ => exact h3.trans (by show 0 * 2048 + q.val = q.val; omega)

include hp in
/-- The rows in the scratch at a point of a used row block. -/
theorem scratch_rows (t : Fin (cfg0 a).N) (hl : t.val / 7 < count a.1) (p : Fin 512) (d : Fin 2048) :
    rows a m ρ c t.val (ix2 p d) = (rowsArr m c (ix2 (rowOf (rowBlock t) p) d) : EReal) := by
  have ht : t.val / 7 * 7 < (cfg0 a).N := lt_of_le_of_lt (Nat.div_mul_le_self _ _) t.isLt
  unfold rows
  rw [rowsAt, dif_pos ht, rows_at]
  have e : rowBlock ⟨t.val / 7 * 7, ht⟩ = rowBlock t := Fin.ext (Nat.mul_div_cancel _ (by decide))
  refine (block_rows a hp m ρ c ⟨t.val / 7 * 7, ht⟩ (by show t.val / 7 * 7 / 7 < _; rw [Nat.mul_div_cancel _ (by decide)]; exact hl) p d).trans ?_
  exact congrArg (fun b => rowsArr m c (ix2 (rowOf b p) d)) e

/-- One hidden unit's share of the output. -/
def share (b : Fin 136) (p : Fin 512) (q : Fin 2048) (f : Fin 7168) : EReal :=
  unit (rowsArr m c) (w1Arr m c) (w3Arr m c) (chosen a hp b) (rowOf b p) f * w2Arr m c (ix4 0 (chosen a hp b) f q)

/-- The term a point of a used row block adds. -/
theorem addTerm_used (t : Fin (cfg0 a).N) (hl : t.val / 7 < count a.1) (y : S512x2048.Idx → Elt Ideal .f32) (p : Fin 512) (q : Fin 2048) :
    addTerm a m ρ c t y (ix2 p q) = (y (ix2 p q) : EReal) + ∑ f : Fin 1024, share a hp m c (rowBlock t) p q (col (t.val % 7) f) := by
  rw [addTerm, if_pos ((used_iff a hp t).mpr hl)]
  refine (term_at _ _ _ _ _ p q).trans (congrArg (fun z : EReal => (y (ix2 p q) : EReal) + z) (Finset.sum_congr rfl fun f _ => ?_))
  simp only [scratch_rows a hp m ρ c t hl, block_w1 a hp m ρ c t hl, block_w3 a hp m ρ c t hl, block_w2 a hp m ρ c t hl]
  rfl

/-- The sum so far at a point of a used row block. -/
theorem acc_used (b : Fin 136) (hl : b.val < count a.1) (p : Fin 512) (q : Fin 2048) :
    ∀ (k : ℕ) (hk : k < 7) (h : b.val * 7 + k < (cfg0 a).N), (acc a m ρ c (b.val * 7 + k) h (ix2 p q) : EReal)
      = ∑ v ∈ Finset.range (k + 1), ∑ f : Fin 1024, share a hp m c b p q (col v f) := by
  intro k
  induction k with
  | zero =>
    intro hk h
    have e := acc_start a m ρ c ⟨b.val * 7 + 0, h⟩ (by show (b.val * 7 + 0) % 7 = 0; omega)
    have eb : rowBlock ⟨b.val * 7 + 0, h⟩ = b := Fin.ext (by show (b.val * 7 + 0) / 7 = b.val; omega)
    have ed : (b.val * 7 + 0) / 7 = b.val := by omega
    have ek : (b.val * 7 + 0) % 7 = 0 := by omega
    refine (congrFun e (ix2 p q)).trans ((addTerm_used a hp m ρ c _ (by show (b.val * 7 + 0) / 7 < _; rw [ed]; exact hl) _ p q).trans ?_)
    rw [zero_at, zero_add, eb, Finset.sum_range_one]
    show ∑ f : Fin 1024, share a hp m c b p q (col ((b.val * 7 + 0) % 7) f) = _
    rw [ek]
  | succ k ih =>
    intro hk h
    have e := acc_step a m ρ c ⟨b.val * 7 + (k + 1), h⟩ (by show ¬ (b.val * 7 + (k + 1)) % 7 = 0; omega)
    have eb : rowBlock ⟨b.val * 7 + (k + 1), h⟩ = b := Fin.ext (by show (b.val * 7 + (k + 1)) / 7 = b.val; omega)
    have ed : (b.val * 7 + (k + 1)) / 7 = b.val := by omega
    have ek : (b.val * 7 + (k + 1)) % 7 = k + 1 := by omega
    refine (congrFun e (ix2 p q)).trans ((addTerm_used a hp m ρ c _ (by show (b.val * 7 + (k + 1)) / 7 < _; rw [ed]; exact hl) _ p q).trans ?_)
    rw [eb, Finset.sum_range_succ _ (k + 1)]
    refine congrArg₂ (fun y z : EReal => y + z) (ih (by omega) (by omega)) ?_
    show ∑ f : Fin 1024, share a hp m c b p q (col ((b.val * 7 + (k + 1)) % 7) f) = _
    rw [ek]

/-- The finished sum of a used row block: the network's output. -/
theorem acc_last (b : Fin 136) (hl : b.val < count a.1) (p : Fin 512) (q : Fin 2048) (h : b.val * 7 + 6 < (cfg0 a).N) :
    (acc a m ρ c (b.val * 7 + 6) h (ix2 p q) : EReal)
      = output (rowsArr m c) (w1Arr m c) (w3Arr m c) (w2Arr m c) (chosen a hp b) (rowOf b p) q := by
  rw [acc_used a hp m ρ c b hl p q 6 (by decide) h, ← Fin.sum_univ_eq_sum_range (fun v => ∑ f : Fin 1024, share a hp m c b p q (col v f)) 7]
  refine Eq.trans ?_ (sum_columns (share a hp m c b p q))
  refine Finset.sum_congr rfl fun v _ => Finset.sum_congr rfl fun f _ => congrArg (share a hp m c b p q) (Fin.ext ?_)
  rw [col_val v.val v.isLt f, Nat.mul_comm]

include hp in
/-- In an unused row block the sum stays zero. -/
theorem acc_unused (b : Fin 136) (hl : ¬ b.val < count a.1) (p : Fin 512) (q : Fin 2048) :
    ∀ (k : ℕ) (hk : k < 7) (h : b.val * 7 + k < (cfg0 a).N), (acc a m ρ c (b.val * 7 + k) h (ix2 p q) : EReal) = 0 := by
  intro k
  induction k with
  | zero =>
    intro hk h
    have ed : (b.val * 7 + 0) / 7 = b.val := by omega
    have hn : ¬ live a.1 (grid0.coords ⟨b.val * 7 + 0, h⟩) := fun hh => hl (by have := (used_iff a hp _).mp hh; rwa [show (⟨b.val * 7 + 0, h⟩ : Fin (cfg0 a).N).val / 7 = b.val from ed] at this)
    have e := acc_start a m ρ c ⟨b.val * 7 + 0, h⟩ (by show (b.val * 7 + 0) % 7 = 0; omega)
    rw [addTerm, if_neg hn] at e
    exact (congrFun e (ix2 p q)).trans (zero_at p q)
  | succ k ih =>
    intro hk h
    have ed : (b.val * 7 + (k + 1)) / 7 = b.val := by omega
    have hn : ¬ live a.1 (grid0.coords ⟨b.val * 7 + (k + 1), h⟩) := fun hh => hl (by have := (used_iff a hp _).mp hh; rwa [show (⟨b.val * 7 + (k + 1), h⟩ : Fin (cfg0 a).N).val / 7 = b.val from ed] at this)
    have e := acc_step a m ρ c ⟨b.val * 7 + (k + 1), h⟩ (by show ¬ (b.val * 7 + (k + 1)) % 7 = 0; omega)
    rw [addTerm, if_neg hn] at e
    exact (congrFun e (ix2 p q)).trans (ih (by omega) (by omega))

/-- The row block of a row. -/
abbrev blockOf (r : Fin 69632) : Fin 136 := ⟨r.val / 512, by omega⟩

/-- The result: the network of the row's expert in a used row block, zero in the others. -/
def result : FVec Ideal S69632x2048 .f32 := fun i =>
  if (blockOf (i 0)).val < count a.1 then output (rowsArr m c) (w1Arr m c) (w3Arr m c) (w2Arr m c) (chosen a hp (blockOf (i 0))) (i 0) (i 1) else (0 : EReal)

/-- Where an element of the result's block sits in the result. -/
theorem result_emb (t : Fin (cfg0 a).N) (y : S512x2048.Idx) :
    (((cfg0 a).win (4 : Fin 5)).blk t).view.emb y = (ix2 (rowOf (rowBlock t) (y 0)) (y 1) : S69632x2048.Idx) := by
  have e := row_index a t
  have h0 := ((cfg0 a).win (4 : Fin 5)).rect_emb_val t y (0 : Fin 2) rfl
  have h1 := ((cfg0 a).win (4 : Fin 5)).rect_emb_val t y (1 : Fin 2) rfl
  rw [e] at h0 h1
  refine funext fun k => Fin.ext ?_
  match k with
  | ⟨0, _⟩ => exact h0
  | ⟨1, _⟩ => exact h1.trans (by show 0 * 2048 + (y 1).val = (y 1).val; omega)

/-- The result array at the end of the run. -/
theorem final : (dats a m ρ 0 c).arrAt (4 : Fin 5) (cfg0 a).N = result a hp m c := by
  refine (dats a m ρ 0 c).arrAt_eq_of_emb (4 : Fin 5) (result a hp m c) (fun t hf y => ?_) (fun i => ?_)
  · have h6 : t.val % 7 = 6 := by rw [flush_eq] at hf; exact of_decide_eq_true hf
    obtain ⟨p, q, rfl⟩ : ∃ (p : Fin 512) (q : Fin 2048), y = ix2 p q := ⟨y (0 : Fin 2), y (1 : Fin 2), (ix2_eta y).symm⟩
    have ht : (rowBlock t).val * 7 + 6 < (cfg0 a).N := lt_of_le_of_lt (show t.val / 7 * 7 + 6 ≤ t.val by omega) t.isLt
    have et : t = ⟨(rowBlock t).val * 7 + 6, ht⟩ := Fin.ext (show t.val = t.val / 7 * 7 + 6 by omega)
    have eb : blockOf (rowOf (rowBlock t) p) = rowBlock t := Fin.ext (show ((rowBlock t).val * 512 + p.val) / 512 = _ by omega)
    refine Eq.trans ?_ (congrArg (result a hp m c) (result_emb a t (ix2 p q))).symm
    have ea : acc a m ρ c t.val t.isLt = acc a m ρ c ((rowBlock t).val * 7 + 6) ht := by congr 1; exact congrArg Fin.val et
    refine Eq.trans (b := acc a m ρ c t.val t.isLt (ix2 p q)) rfl ?_
    rw [ea]
    show _ = if (blockOf (rowOf (rowBlock t) p)).val < count a.1 then output (rowsArr m c) (w1Arr m c) (w3Arr m c) (w2Arr m c) (chosen a hp (blockOf (rowOf (rowBlock t) p))) (rowOf (rowBlock t) p) q else (0 : EReal)
    rw [eb]
    by_cases hl : (rowBlock t).val < count a.1
    · rw [if_pos hl]; exact acc_last a hp m ρ c _ hl p q ht
    · rw [if_neg hl]; exact acc_unused a hp m ρ c _ hl p q 6 (by decide) ht
  · have hb : (i (0 : Fin 2)).val < 69632 := (i (0 : Fin 2)).isLt
    have ht : (i (0 : Fin 2)).val / 512 * 7 + 6 < (cfg0 a).N := lt_of_lt_of_eq (b := 952) (by omega) N_0.symm
    have eb : rowBlock ⟨(i (0 : Fin 2)).val / 512 * 7 + 6, ht⟩ = blockOf (i (0 : Fin 2)) := Fin.ext (show ((i (0 : Fin 2)).val / 512 * 7 + 6) / 7 = (i (0 : Fin 2)).val / 512 by omega)
    refine ⟨⟨(i (0 : Fin 2)).val / 512 * 7 + 6, ht⟩, ?_, ?_⟩
    · rw [flush_eq]; exact decide_eq_true (show ((i (0 : Fin 2)).val / 512 * 7 + 6) % 7 = 6 by omega)
    · have e := result_emb a ⟨(i (0 : Fin 2)).val / 512 * 7 + 6, ht⟩ (ix2 ⟨(i (0 : Fin 2)).val % 512, Nat.mod_lt _ (by decide)⟩ (i (1 : Fin 2)))
      rw [eb] at e
      have ei : (ix2 (rowOf (blockOf (i (0 : Fin 2))) ⟨(i (0 : Fin 2)).val % 512, Nat.mod_lt _ (by decide)⟩) (i (1 : Fin 2)) : S69632x2048.Idx) = i := by
        refine funext fun k => Fin.ext ?_
        match k with
        | ⟨0, _⟩ => show (i (0 : Fin 2)).val / 512 * 512 + (i (0 : Fin 2)).val % 512 = (i (0 : Fin 2)).val; omega
        | ⟨1, _⟩ => rfl
      have hm := View.emb_mem_set (((cfg0 a).win (4 : Fin 5)).blk ⟨(i (0 : Fin 2)).val / 512 * 7 + 6, ht⟩).view
        (ix2 ⟨(i (0 : Fin 2)).val % 512, Nat.mod_lt _ (by decide)⟩ (i (1 : Fin 2)))
      rw [e.trans ei] at hm
      exact hm

end Cert.Routed

end
-- ==== Proof.Plain.lean ====
/- What the experts' reference computes at an index: the network of the expert of the row's block, or zero past the used blocks. -/
module

public import proofs.«01_k».proof.Proof.Hidden
public import proofs.«01_k».proof.Proof.Gen.ExpertsReferenceIdeal.Read
public import Idealize.ShloMosaic.Lib.WordCmp

@[expose] public section

set_option maxRecDepth 16384

noncomputable section

namespace Cert.Plain

open Cert.ExpertsReferenceIdeal Cert.ExpertsReferenceIdeal.Gen Cert.ExpertsReferenceIdeal.Read Cert.Hidden
open Idealize.ShloMosaic Idealize.ShloMosaic.Pointwise

/-- The first layer's weights, taken by the row block's word: the weights of the expert it names, kept below eight. -/
theorem gather_in (x : S8x2048x7168.Idx → EReal) (idx : IVec S136x1 32) (b : Fin 136) (d : Fin 2048) (f : Fin 7168) :
    Host.gather gather_S8x2048x7168_S136x1_S136x2048x7168_12_0_n_n_0_1_120487168 x idx (ix3 b d f)
      = x (ix3 ⟨min (idx (ix2 b 0)).toInt.toNat 7, by omega⟩ d f) := by
  have hs : gather_S8x2048x7168_S136x1_S136x2048x7168_12_0_n_n_0_1_120487168.siIdx (ix3 b d f) ⟨0, Nat.one_pos⟩ = ix2 b 0 := by
    funext a
    fin_cases a <;> rfl
  unfold Host.gather
  congr 1
  funext a
  apply Fin.ext
  fin_cases a
  · show min (idx (gather_S8x2048x7168_S136x1_S136x2048x7168_12_0_n_n_0_1_120487168.siIdx (ix3 b d f) ⟨0, Nat.one_pos⟩)).toInt.toNat 7 + 0 + 0 = _
    rw [hs]
    rfl
  · show 0 + 0 + d.val = d.val
    omega
  · show 0 + 0 + f.val = f.val
    omega

/-- The second layer's weights, likewise. -/
theorem gather_out (x : S8x7168x2048.Idx → EReal) (idx : IVec S136x1 32) (b : Fin 136) (f : Fin 7168) (q : Fin 2048) :
    Host.gather gather_S8x7168x2048_S136x1_S136x7168x2048_12_0_n_n_0_1_171682048 x idx (ix3 b f q)
      = x (ix3 ⟨min (idx (ix2 b 0)).toInt.toNat 7, by omega⟩ f q) := by
  have hs : gather_S8x7168x2048_S136x1_S136x7168x2048_12_0_n_n_0_1_171682048.siIdx (ix3 b f q) ⟨0, Nat.one_pos⟩ = ix2 b 0 := by
    funext a
    fin_cases a <;> rfl
  unfold Host.gather
  congr 1
  funext a
  apply Fin.ext
  fin_cases a
  · show min (idx (gather_S8x7168x2048_S136x1_S136x7168x2048_12_0_n_n_0_1_171682048.siIdx (ix3 b f q) ⟨0, Nat.one_pos⟩)).toInt.toNat 7 + 0 + 0 = _
    rw [hs]
    rfl
  · show 0 + 0 + f.val = f.val
    omega
  · show 0 + 0 + q.val = q.val
    omega

variable (be : IVec S136 32) (nb : IVec S1 32) (X : FVec Ideal S69632x2048 .f32)
variable (W1 W3 : FVec Ideal S2x8x2048x7168 .bf16) (W2 : FVec Ideal S2x8x7168x2048 .bf16)
variable (e : Fin 136 → Fin 8) (he : ∀ b, (be (ix1 b)).toNat = (e b).val)

include he

/-- The word that names a row block's expert: the table's own, which is not negative. -/
theorem word_at (b : Fin 136) : val_main_v9 (F := Ideal) be (ix2 b 0) = be (ix1 b) := by
  have i₁ : idx_main_v9 (ix2 b 0) = ix1 b := by
    funext d
    fin_cases d
    rfl
  have h8 := (e b).isLt
  have hb := he b
  have hc : val_main_v5 (F := Ideal) be (ix1 b) = 0#1 := by
    rw [val_main_v5_apply, val_main_v4_apply, val_main_c_apply]
    refine (WordCmp.cmpi_slt_of_lt (by omega) (by decide)).trans ?_
    rfl
  rw [val_main_v9_apply, i₁, val_main_v8_apply, hc]
  rfl

/-- The expert the word names. -/
theorem named_at (b : Fin 136) : (⟨min (val_main_v9 (F := Ideal) be (ix2 b 0)).toInt.toNat 7, by omega⟩ : Fin 8) = e b := by
  have h8 := (e b).isLt
  have hb := he b
  refine Fin.ext ?_
  show min (val_main_v9 (F := Ideal) be (ix2 b 0)).toInt.toNat 7 = (e b).val
  rw [word_at be e he, BitVec.toInt_eq_toNat_of_lt (by omega)]
  omega

/-- The weights of the first product of a row block. -/
theorem first_at (b : Fin 136) (d : Fin 2048) (f : Fin 7168) : val_main_v10 (F := Ideal) be W1 (ix3 b d f) = (W1 (ix4 0 (e b) d f) : EReal) := by
  refine (gather_in (val_main_v3 (F := Ideal) W1) (val_main_v9 (F := Ideal) be) b d f).trans ?_
  rw [named_at be e he, val_main_v3_apply, val_main_v2_apply, val_main_v1_apply]
  refine congrArg W1 (funext fun k => Fin.ext ?_)
  have h1 := (e b).isLt
  have h2 := d.isLt
  have h3 := f.isLt
  fin_cases k
  · rfl
  · show (((e b).val * 2048 + d.val) * 7168 + f.val) / 14680064 % 8 = (e b).val
    omega
  · show (((e b).val * 2048 + d.val) * 7168 + f.val) / 7168 % 2048 = d.val
    omega
  · show (((e b).val * 2048 + d.val) * 7168 + f.val) % 7168 = f.val
    omega

/-- The weights of the second product of a row block: taken as the first's are. -/
theorem second_at (b : Fin 136) (d : Fin 2048) (f : Fin 7168) : val_main_v20 (F := Ideal) be W3 (ix3 b d f) = (W3 (ix4 0 (e b) d f) : EReal) :=
  first_at be W3 e he b d f

/-- The weights of the last product of a row block. -/
theorem last_at (b : Fin 136) (f : Fin 7168) (q : Fin 2048) : val_main_v30 (F := Ideal) be W2 (ix3 b f q) = (W2 (ix4 0 (e b) f q) : EReal) := by
  refine (gather_out (val_main_v23 (F := Ideal) W2) (val_main_v9 (F := Ideal) be) b f q).trans ?_
  rw [named_at be e he, val_main_v23_apply, val_main_v22_apply, val_main_v21_apply]
  refine congrArg W2 (funext fun k => Fin.ext ?_)
  have h1 := (e b).isLt
  have h2 := f.isLt
  have h3 := q.isLt
  fin_cases k
  · rfl
  · show (((e b).val * 7168 + f.val) * 2048 + q.val) / 14680064 % 8 = (e b).val
    omega
  · show (((e b).val * 7168 + f.val) * 2048 + q.val) / 2048 % 7168 = f.val
    omega
  · show (((e b).val * 7168 + f.val) * 2048 + q.val) % 2048 = q.val
    omega

/-- The first product of a row of a block. -/
theorem up_at (b : Fin 136) (p : Fin 512) (f : Fin 7168) :
    val_main_v31 (F := Ideal) be X W1 (ix3 b p f) = ∑ d : Fin 2048, X (ix2 ⟨b.val * 512 + p.val, by omega⟩ d) * W1 (ix4 0 (e b) d f) := by
  refine (val_main_v31_apply be X W1 _).trans (Finset.sum_congr rfl fun d _ => congrArg₂ (· * ·) ?_ ?_)
  · have i₁ : lidx_main_v31 (ix3 b p f) d = ix3 b p d := by
      funext k
      fin_cases k <;> rfl
    rw [i₁, val_main_v0_apply]
    refine congrArg X (funext fun k => Fin.ext ?_)
    have h := d.isLt
    fin_cases k
    · show ((b.val * 512 + p.val) * 2048 + d.val) / 2048 = b.val * 512 + p.val
      omega
    · show ((b.val * 512 + p.val) * 2048 + d.val) % 2048 = d.val
      omega
  · have i₁ : ridx_main_v31 (ix3 b p f) d = ix3 b d f := by
      funext k
      fin_cases k <;> rfl
    rw [i₁]
    exact first_at be W1 e he b d f

/-- The second product, the same with its own weights. -/
theorem side_at (b : Fin 136) (p : Fin 512) (f : Fin 7168) :
    val_main_v33 (F := Ideal) be X W3 (ix3 b p f) = ∑ d : Fin 2048, X (ix2 ⟨b.val * 512 + p.val, by omega⟩ d) * W3 (ix4 0 (e b) d f) :=
  up_at be X W3 e he b p f

/-- The hidden unit of a row of a block. -/
theorem hidden_at (b : Fin 136) (p : Fin 512) (f : Fin 7168) :
    val_main_v34 (F := Ideal) be X W1 W3 (ix3 b p f) = unit X W1 W3 (e b) ⟨b.val * 512 + p.val, by omega⟩ f := by
  have one₁ : (val_main_call0_v2 (F := Ideal) (ix3 b p f) : EReal) = 1 := (val_main_call0_v2_apply _).trans Ideal.ofBits_one_f32
  have one₂ : (val_main_call0_v4 (F := Ideal) (ix3 b p f) : EReal) = 1 := (val_main_call0_v4_apply _).trans Ideal.ofBits_one_f32
  rw [val_main_v34_apply, val_main_v32_apply, side_at be X W3 e he, val_main_call0_v5_apply, val_main_call0_v3_apply, val_main_call0_v1_apply,
    val_main_call0_v0_apply, up_at be X W1 e he, one₁, one₂]
  unfold unit gate
  rw [zero_sub]
  rfl

/-- The network's output of a row of a block. -/
theorem down_at (b : Fin 136) (p : Fin 512) (q : Fin 2048) :
    val_main_v35 (F := Ideal) be X W1 W3 W2 (ix3 b p q) = output X W1 W3 W2 (e b) ⟨b.val * 512 + p.val, by omega⟩ q := by
  refine (val_main_v35_apply be X W1 W3 W2 _).trans (Finset.sum_congr rfl fun f _ => congrArg₂ (· * ·) ?_ ?_)
  · have i₁ : lidx_main_v35 (ix3 b p q) f = ix3 b p f := by
      funext k
      fin_cases k <;> rfl
    rw [i₁]
    exact hidden_at be X W1 W3 e he b p f
  · have i₁ : ridx_main_v35 (ix3 b p q) f = ix3 b f q := by
      funext k
      fin_cases k <;> rfl
    rw [i₁]
    exact last_at be W2 e he b f q

omit he in
/-- The mask of the used blocks. -/
theorem mask_at (hn : (nb (ix1 0)).toNat < 2 ^ 31) (b : Fin 136) (p : Fin 512) (q : Fin 2048) :
    val_main_call1_v1 (F := Ideal) nb (ix3 b p q) = BitVec.ofBool (decide (b.val < (nb (ix1 0)).toNat)) := by
  have i₁ : idx_main_v40 (idx_main_call1_v1 (ix3 b p q)) = ix1 b := by
    funext k
    fin_cases k
    rfl
  have n : val_main_v37 (F := Ideal) nb (idx_main_v38 (ix1 b)) = nb (ix1 0) := by
    unfold val_main_v37
    exact shapeCast_apply nb shapeCasts_S1_S_ _ (ix1 0) rfl
  have hb := b.isLt
  have eb : (BitVec.ofNat 32 b.val).toNat = b.val := by
    rw [BitVec.toNat_ofNat, Nat.mod_eq_of_lt (by omega)]
  rw [val_main_call1_v1_apply, val_main_v40_apply, i₁, val_main_v39_apply, val_main_v38_apply, n, val_main_v36_apply]
  refine (WordCmp.cmpi_slt_of_lt (by show (BitVec.ofNat 32 b.val).toNat < _; rw [eb]; omega) (by omega)).trans ?_
  show BitVec.ofBool (decide ((BitVec.ofNat 32 b.val).toNat < _)) = _
  rw [eb]

/-- The reference's result at an index: the network of the expert of the row's block, or zero past the used blocks. -/
theorem result_at (hn : (nb (ix1 0)).toNat < 2 ^ 31) (r : Fin 69632) (q : Fin 2048) :
    val_main_v42 (F := Ideal) be nb X W1 W3 W2 (ix2 r q)
      = if r.val / 512 < (nb (ix1 0)).toNat then output X W1 W3 W2 (e ⟨r.val / 512, by omega⟩) r q else (0 : EReal) := by
  have i₁ : idx_main_v42 (ix2 r q) = ix3 ⟨r.val / 512, by omega⟩ ⟨r.val % 512, by omega⟩ q := by
    funext k
    apply Fin.ext
    have h := q.isLt
    fin_cases k
    · show (r.val * 2048 + q.val) / 1048576 = r.val / 512
      omega
    · show (r.val * 2048 + q.val) / 2048 % 512 = r.val % 512
      omega
    · show (r.val * 2048 + q.val) % 2048 = q.val
      omega
  have z : (val_main_call1_v2 (F := Ideal) (ix3 ⟨r.val / 512, by omega⟩ ⟨r.val % 512, by omega⟩ q) : EReal) = 0 :=
    (val_main_call1_v2_apply _).trans Ideal.ofBits_zero_f32
  have er : (⟨r.val / 512 * 512 + r.val % 512, by omega⟩ : Fin 69632) = r := Fin.ext (by show r.val / 512 * 512 + r.val % 512 = r.val; omega)
  rw [val_main_v42_apply, i₁, val_main_v41_apply, mask_at nb hn, z, down_at be X W1 W3 W2 e he]
  dsimp only
  rw [er]
  by_cases h : r.val / 512 < (nb (ix1 0)).toNat
  · rw [if_pos h, decide_eq_true h]
    rfl
  · rw [if_neg h, decide_eq_false h]
    rfl

end Cert.Plain

end
-- ==== Proof.Agree.lean ====
/- The experts' call and its reference end with the same results. -/
module

public import proofs.«01_k».proof.Proof.Experts
public import proofs.«01_k».proof.Proof.Filled
public import proofs.«01_k».proof.Proof.Plain

@[expose] public section

set_option maxRecDepth 16384

noncomputable section

namespace Cert.Routed

open Cert.ExpertsIdeal Cert.ExpertsIdeal.Gen
open Idealize.ShloMosaic Idealize.ShloMosaic.Pointwise
open Idealize.ShloMosaic.TcCoe

/-- A row block's place in the table is its index. -/
theorem place_eq (b : Fin 136) : place b = ix1 b := by
  funext k
  fin_cases k
  rfl

/-- The count is the one word of its table. -/
theorem count_eq (pf : pre0.Contents (Elt Ideal)) : count pf = BitVec.toNat (w := 32) (used pf (ix1 0)) := by
  refine congrArg (fun i => BitVec.toNat (w := 32) (used pf i)) ?_
  funext k
  fin_cases k
  rfl

/-- What the reference computes of tables in range and of the call's operands is what the call leaves. -/
theorem same_result (a : (pcfg0 (F := Ideal)).Adm) (hp : InRange a.1) (m : (ℓ : Loc nD τ sig) → Buf (Elt Ideal) ℓ) (c : Dev nD) :
    Cert.ExpertsReferenceIdeal.Read.val_main_v42 (F := Ideal) (exps a.1) (used a.1) (rowsArr m c) (w1Arr m c) (w3Arr m c) (w2Arr m c)
      = result a hp m c := by
  funext i
  obtain ⟨r, q, rfl⟩ : ∃ (r : Fin 69632) (q : Fin 2048), i = ix2 r q := ⟨i (0 : Fin 2), i (1 : Fin 2), (ix2_eta i).symm⟩
  refine (Cert.Plain.result_at (exps a.1) (used a.1) (rowsArr m c) (w1Arr m c) (w3Arr m c) (w2Arr m c) (chosen a hp)
    (fun b => congrArg (fun i => BitVec.toNat (w := 32) (exps a.1 i)) (place_eq b).symm) ?_ r q).trans ?_
  · rw [← count_eq]
    exact hp.count_lt
  · rw [← count_eq]
    rfl

/-- The experts' call and its reference end with the same results. -/
theorem algebraic : Cert.algebraic_ExpertsIdeal_ExpertsReferenceIdeal := by
  intro m g m' g' hm h
  have hr := inRange_of_routed (tablesOf m) _ _ _ _ (hm 0)
  have ht := tabled_of m (admissible _ hr)
  refine ⟨fun c => result ⟨tablesOf m, admissible _ hr⟩ hr m c, ?_, ?_⟩
  · refine (θ_run _ _ _).mono (fun r p c => ?_) (runs ⟨tablesOf m, admissible _ hr⟩ m g ht)
    have e := p.1 c
    have k (w : Fin 5) (o : ((cfg0 ⟨tablesOf m, admissible _ hr⟩).win w).isOut = false) :=
      (e.1 w).trans ((dats ⟨tablesOf m, admissible _ hr⟩ m g 0 c).arrAt_in w o _)
    exact ⟨(e.1 (4 : Fin 5)).trans (final ⟨tablesOf m, admissible _ hr⟩ hr m g c), (e.2 0).trans (ht c 0).symm, (e.2 1).trans (ht c 1).symm,
      k 0 rfl, k 1 rfl, k 2 rfl, k 3 rfl⟩
  · refine (θ_run _ _ _).mono (fun r p c => ⟨(p c).1.trans ?_, (p c).2⟩) (Cert.ExpertsReferenceIdeal.Value.run m' g')
    obtain rfl : c = 0 := Subsingleton.elim _ _
    obtain ⟨h0, h1, h2, h3, h4, h5⟩ := h 0
    rw [Cert.ExpertsReferenceIdeal.Read.val_main_v42_eq, h0, h1, h2, h3, h4, h5]
    exact same_result ⟨tablesOf m, admissible _ hr⟩ hr m 0

/-- The reference is host operations alone: it runs, and leaves its arguments and every counter as they were. -/
theorem frame_reference : Cert.quiescent_ExpertsReferenceIdeal := fun m g _ =>
  (θ_run Cert.ExpertsReferenceIdeal.defs _ _).mono (fun r h => ⟨fun c => (h c).2, sem_eq_zero_of_no_sems (by decide) r.2⟩)
    (Cert.ExpertsReferenceIdeal.Value.run (F := Ideal) m g)

end Cert.Routed

end
-- ==== Proof.lean ====
/- The claims of this certificate, assembled: the programs run and leave their arguments and counters as they were; the
   idealized attention is the attention with two constants named, and on finite queries, keys and biases it ends as its reference
   does; and with tables in range the experts' call ends with its reference's results. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Point
public import proofs.«01_k».proof.Proof.Equation
public import proofs.«01_k».proof.Proof.Agree

@[expose] public section

noncomputable section

namespace Cert.Proof

open Idealize.ShloMosaic Idealize.ShloMosaic.Pointwise Idealize.SL.Sem

set_option maxRecDepth 16384

/-- The kernel's two named constants: the rounded `1 / ln 2` and the score of a masked key. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- The reference is host operations alone: it runs, and leaves its arguments and every counter as they were. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On memories that agree, finite where the precondition asks it, the two result arrays are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (q : Cert.ReferenceIdeal.S8x16x4096x128.Idx → EReal)
    (k v : Cert.ReferenceIdeal.S8x16x4608x128.Idx → EReal) (rel : Cert.ReferenceIdeal.S32x192.Idx → EReal)
    (h : Cert.Pre_finite.fn (F := Ideal) q k v rel = fun _ => 1#1)
    (hq : m ((c.tc : Thread Cert.KernelIdeal.nD Cert.KernelIdeal.τ).loc Cert.KernelIdeal.main_arg0) = q)
    (hk : m ((c.tc : Thread Cert.KernelIdeal.nD Cert.KernelIdeal.τ).loc Cert.KernelIdeal.main_arg1) = k)
    (hv : m ((c.tc : Thread Cert.KernelIdeal.nD Cert.KernelIdeal.τ).loc Cert.KernelIdeal.main_arg2) = v)
    (hr : m ((c.tc : Thread Cert.KernelIdeal.nD Cert.KernelIdeal.τ).loc Cert.KernelIdeal.main_arg3) = rel)
    (hq' : m' ((c.tc : Thread Cert.ReferenceIdeal.nD Cert.ReferenceIdeal.τ).loc Cert.ReferenceIdeal.main_arg0) = q)
    (hk' : m' ((c.tc : Thread Cert.ReferenceIdeal.nD Cert.ReferenceIdeal.τ).loc Cert.ReferenceIdeal.main_arg1) = k)
    (hv' : m' ((c.tc : Thread Cert.ReferenceIdeal.nD Cert.ReferenceIdeal.τ).loc Cert.ReferenceIdeal.main_arg2) = v)
    (hr' : m' ((c.tc : Thread Cert.ReferenceIdeal.nD Cert.ReferenceIdeal.τ).loc Cert.ReferenceIdeal.main_arg3) = rel) :
    Cert.ReferenceIdeal.Value.res_main_v81 m' c
      = (Cert.KernelIdeal.Gen.dats m 0 c).arrAt 4 (Cert.KernelIdeal.cfgs 0).N := by
  obtain ⟨fq, fk, fr⟩ := Equation.finite_of q k v rel h
  rw [Cert.ReferenceIdeal.Read.val_main_v81_eq, hq', hk', hv', hr', Cert.Point.final, Cert.KernelIdeal.Gen.V_main_arg0,
    Cert.KernelIdeal.Gen.V_main_arg1, Cert.KernelIdeal.Gen.V_main_arg2, Cert.Bias.V_bias]
  funext i
  refine Eq.trans (congrArg _ ?_) ((Ref.result_at q k v rel (i 0) (i 1) (i 2) (i 3)).trans (Eq.trans (Equation.row_eq q k v rel fq fk fr (i 0) (i 1) (i 2) (i 3)).symm ?_))
  · funext d
    fin_cases d <;> rfl
  · subst hq hk hv hr
    rfl

/-- The kernel and the reference end with the same attention. -/
theorem algebraic : Cert.algebraic_KernelIdeal_ReferenceIdeal_pre_finite := by
  intro m g m' g' hm h
  refine ⟨fun c => (Cert.KernelIdeal.Gen.dats m 0 c).arrAt 4 (Cert.KernelIdeal.cfgs 0).N, Cert.KernelIdeal.Value.run_blocks m g, ?_⟩
  refine (θ_run _ _ _).mono (fun r p c => ⟨(p c).1.trans ?_, (p c).2⟩) (Cert.ReferenceIdeal.Value.run m' g')
  exact results_eq m m' c _ _ _ _ (hm c) rfl rfl rfl rfl (h c).1 (h c).2.1 (h c).2.2.1 (h c).2.2.2

/-- The claims: first the attention's programs run and leave their arguments, then the experts'; then the two pairs of equations. -/
theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.Pre_finite.Gen.facts, Cert.Pre_routed.Gen.facts,
    fun m g _ => Cert.Kernel.Gen.frame m g, fun m g _ => Cert.KernelIdeal.Gen.frame m g, fun m g _ => Cert.KernelIdeal.Gen.frame m g,
    frame_reference,
    fun m g _ => frame_reference m g trivial,
    Cert.Routed.frame_bits, Cert.Routed.frame_ideal, Cert.Routed.frame_reference, fun m g _ => Cert.Routed.frame_reference m g trivial,
    preserves, algebraic, trivial, Cert.Routed.algebraic⟩

end Cert.Proof

end
